-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v17)) (v3 : (c : Dev Cert.KernelIdeal.nD) → Buf (Elt Ideal) ((c.tc : Thread Cert.KernelIdeal.nD Cert.KernelIdeal.τ).loc Cert.KernelIdeal.main_v18)) (v4 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_v18) = v3 c
          ∧ r.2.mem ((c.tc : Thread Cert.KernelIdeal.nD Cert.KernelIdeal.τ).loc Cert.KernelIdeal.main_v21) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86_6) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_v65) = v3 c
          ∧ r.2.mem ((c.tc : Thread Cert.ReferenceIdeal.nD Cert.ReferenceIdeal.τ).loc Cert.ReferenceIdeal.main_v80) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S16384x64 : Shape := ⟨2, ![16384, 64]⟩
abbrev S16384x64x64 : Shape := ⟨3, ![16384, 64, 64]⟩
abbrev S64x64 : Shape := ⟨2, ![64, 64]⟩
abbrev S64 : Shape := ⟨1, ![64]⟩
abbrev S256x129 : Shape := ⟨2, ![256, 129]⟩
abbrev S256x64 : Shape := ⟨2, ![256, 64]⟩
abbrev S256 : Shape := ⟨1, ![256]⟩
abbrev S_ : Shape := ⟨0, ![]⟩

class Facts : Prop where
  bcast_S_S16384x64 : S_.BroadcastsInDim S16384x64 (![] : Fin 0 → Fin S16384x64.rank)
  bcast_S_S16384x64x64 : S_.BroadcastsInDim S16384x64x64 (![] : Fin 0 → Fin S16384x64x64.rank)
  bcast_S_S64x64 : S_.BroadcastsInDim S64x64 (![] : Fin 0 → Fin S64x64.rank)

variable [Facts]

def fn {F : FTy → Type} [FloatOps F] (main_arg0 : FVec F S16384x64 .f32) (main_arg1 : FVec F S16384x64 .f32) (main_arg2 : FVec F S16384x64x64 .f32) (main_arg3 : FVec F S16384x64x64 .f32) (main_arg4 : FVec F S16384x64 .f32) (main_arg5 : IVec S16384x64 1) (main_arg6 : FVec F S64x64 .f32) (main_arg7 : FVec F S64x64 .f32) (main_arg8 : FVec F S64x64 .f32) (main_arg9 : FVec F S64 .f32) (main_arg10 : FVec F S256x129 .f32) (main_arg11 : FVec F S256x64 .f32) (main_arg12 : FVec F S256 .f32) (main_arg13 : FVec F S256 .f32) : IVec S16384x64 1 × IVec S16384x64x64 1 × IVec S64x64 1 × IVec S64x64 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_v3 : FVec F S16384x64x64 .f32 := Host.absf main_arg2
  let main_cst_0 : FVec F S_ .f32 := constant S_ .f32 0x7F800000#32
  let main_v4 : FVec F S16384x64x64 .f32 := broadcastInDim S16384x64x64 ![] bcast_S_S16384x64x64 main_cst_0
  let main_v5 : IVec S16384x64x64 1 := cmpf .olt main_v3 main_v4
  let main_v6 : FVec F S64x64 .f32 := Host.absf main_arg6
  let main_cst_1 : FVec F S_ .f32 := constant S_ .f32 0x7F800000#32
  let main_v7 : FVec F S64x64 .f32 := broadcastInDim S64x64 ![] bcast_S_S64x64 main_cst_1
  let main_v8 : IVec S64x64 1 := cmpf .olt main_v6 main_v7
  let main_v9 : FVec F S64x64 .f32 := Host.absf main_arg7
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  (main_v2, main_v5, main_v8, main_v11)
-- ==== Kernel.lean ====
abbrev S16384x64 : Shape := ⟨2, ![16384, 64]⟩
abbrev S16384x64x64 : Shape := ⟨3, ![16384, 64, 64]⟩
abbrev S64x64 : Shape := ⟨2, ![64, 64]⟩
abbrev S64 : Shape := ⟨1, ![64]⟩
abbrev S256x129 : Shape := ⟨2, ![256, 129]⟩
abbrev S256x64 : Shape := ⟨2, ![256, 64]⟩
abbrev S256 : Shape := ⟨1, ![256]⟩
abbrev S64x16384 : Shape := ⟨2, ![64, 16384]⟩
abbrev S64x64x16384 : Shape := ⟨3, ![64, 64, 16384]⟩
abbrev S64x1 : Shape := ⟨2, ![64, 1]⟩
abbrev S256x128 : Shape := ⟨2, ![256, 128]⟩
abbrev S256x1 : Shape := ⟨2, ![256, 1]⟩
abbrev S64x256 : Shape := ⟨2, ![64, 256]⟩
abbrev S64x64x256 : Shape := ⟨3, ![64, 64, 256]⟩
abbrev S1x64x256 : Shape := ⟨3, ![1, 64, 256]⟩
abbrev S1x256 : Shape := ⟨2, ![1, 256]⟩
abbrev S64x1x256 : Shape := ⟨3, ![64, 1, 256]⟩
abbrev S64x128 : Shape := ⟨2, ![64, 128]⟩
abbrev S128 : Shape := ⟨1, ![128]⟩
abbrev S1x128 : Shape := ⟨2, ![1, 128]⟩
abbrev S_ : Shape := ⟨0, ![]⟩

abbrev nBuf : Space → Nat
  | .hbm => 41
  | .vmem => 28
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S16384x64x64, .f32⟩
  | .hbm, ⟨3, _⟩ => ⟨S16384x64x64, .f32⟩
  | .hbm, ⟨4, _⟩ => ⟨S16384x64, .f32⟩
  | .hbm, ⟨5, _⟩ => ⟨S16384x64, .i1⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S256x129, .f32⟩
  | .hbm, ⟨11, _⟩ => ⟨S256x64, .f32⟩
  | .hbm, ⟨12, _⟩ => ⟨S256, .f32⟩
  | .hbm, ⟨13, _⟩ => ⟨S256, .f32⟩
  | .hbm, ⟨14, _⟩ => ⟨S64x16384, .f32⟩
  | .hbm, ⟨15, _⟩ => ⟨S64x64x16384, .f32⟩
  | .hbm, ⟨16, _⟩ => ⟨S64x64x16384, .f32⟩
  | .hbm, ⟨17, _⟩ => ⟨S64x16384, .f32⟩
  | .hbm, ⟨18, _⟩ => ⟨S64x16384, .i1⟩
  | .hbm, ⟨19, _⟩ => ⟨S64x16384, .f32⟩
  | .hbm, ⟨20, _⟩ => ⟨S64x1, .f32⟩
  | .hbm, ⟨21, _⟩ => ⟨S256x128, .f32⟩
  | .hbm, ⟨22, _⟩ => ⟨S256x1, .f32⟩
  | .hbm, ⟨23, _⟩ => ⟨S256, .f32⟩
  | .hbm, ⟨24, _⟩ => ⟨S256x1, .f32⟩
  | .hbm, ⟨25, _⟩ => ⟨S256, .f32⟩
  | .hbm, ⟨26, _⟩ => ⟨S256x1, .f32⟩
  | .hbm, ⟨27, _⟩ => ⟨S64x64, .f32⟩
  | .hbm, ⟨28, _⟩ => ⟨S64x16384, .f32⟩
  | .hbm, ⟨29, _⟩ => ⟨S64x64x16384, .f32⟩
  | .hbm, ⟨30, _⟩ => ⟨S64x64x16384, .f32⟩
  | .hbm, ⟨31, _⟩ => ⟨S64x16384, .f32⟩
  | .hbm, ⟨32, _⟩ => ⟨S64x16384, .f32⟩
  | .hbm, ⟨33, _⟩ => ⟨S16384x64, .f32⟩
  | .hbm, ⟨34, _⟩ => ⟨S16384x64x64, .f32⟩
  | .hbm, ⟨35, _⟩ => ⟨S16384x64x64, .f32⟩
  | .hbm, ⟨36, _⟩ => ⟨S16384x64, .f32⟩
  | .hbm, ⟨37, _⟩ => ⟨S16384x64, .f32⟩
  | .hbm, ⟨38, _⟩ => ⟨S_, .f32⟩
  | .hbm, ⟨39, _⟩ => ⟨S16384x64, .f32⟩
  | .hbm, ⟨40, _⟩ => ⟨S16384x64, .i1⟩
  | .local _ .vmem, ⟨0, _⟩ => ⟨S64x256, .f32⟩
  | .local _ .vmem, ⟨1, _⟩ => ⟨S64x256, .f32⟩
  | .local _ .vmem, ⟨2, _⟩ => ⟨S64x64x256, .f32⟩
  | .local _ .vmem, ⟨3, _⟩ => ⟨S64x64x256, .f32⟩
  | .local _ .vmem, ⟨4, _⟩ => ⟨S64x64x256, .f32⟩
  | .local _ .vmem, ⟨5, _⟩ => ⟨S64x64x256, .f32⟩
  | .local _ .vmem, ⟨6, _⟩ => ⟨S64x256, .f32⟩
  | .local _ .vmem, ⟨7, _⟩ => ⟨S64x256, .f32⟩
  | .local _ .vmem, ⟨8, _⟩ => ⟨S64x256, .f32⟩
  | .local _ .vmem, ⟨9, _⟩ => ⟨S64x256, .f32⟩
  | .local _ .vmem, ⟨10, _⟩ => ⟨S64x64, .f32⟩
  | .local _ .vmem, ⟨11, _⟩ => ⟨S64x64, .f32⟩
  | .local _ .vmem, ⟨12, _⟩ => ⟨S64x64, .f32⟩
  | .local _ .vmem, ⟨13, _⟩ => ⟨S64x1, .f32⟩
  | .local _ .vmem, ⟨14, _⟩ => ⟨S256x128, .f32⟩
  | .local _ .vmem, ⟨15, _⟩ => ⟨S256x1, .f32⟩
  | .local _ .vmem, ⟨16, _⟩ => ⟨S256x64, .f32⟩
  | .local _ .vmem, ⟨17, _⟩ => ⟨S256x1, .f32⟩
  | .local _ .vmem, ⟨18, _⟩ => ⟨S64x256, .f32⟩
  | .local _ .vmem, ⟨19, _⟩ => ⟨S64x256, .f32⟩
  | .local _ .vmem, ⟨20, _⟩ => ⟨S64x64x256, .f32⟩
  | .local _ .vmem, ⟨21, _⟩ => ⟨S64x64x256, .f32⟩
  | .local _ .vmem, ⟨22, _⟩ => ⟨S64x64x256, .f32⟩
  | .local _ .vmem, ⟨23, _⟩ => ⟨S64x64x256, .f32⟩
  | .local _ .vmem, ⟨24, _⟩ => ⟨S64x256, .f32⟩
  | .local _ .vmem, ⟨25, _⟩ => ⟨S64x256, .f32⟩
  | .local _ .vmem, ⟨26, _⟩ => ⟨S64x256, .f32⟩
  | .local _ .vmem, ⟨27, _⟩ => ⟨S64x256, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev main_v14_3 : Ref sig .tc := ⟨.hbm, 31, rfl⟩
abbrev main_v14_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c64_i32_55 : BitVec 32 := 64#32
  let v102 : BitVec 32 := Scalar.addi c0_i32 c64_i32_55
  let c1_i32 : BitVec 32 := 1#32
  ⟨c0_i32, v102, c1_i32⟩
def k0_off1 (k0_t1 : Fin k0_t1_loop.trips) : Fin 3 → Nat :=
  let c0_i32 : BitVec 32 := 0#32
  let c1_i32 : BitVec 32 := 1#32
  let arg19 : BitVec 32 := Scf.iv c0_i32 c1_i32 k0_t1
  let v106 : Index := Scalar.indexCast arg19
  let c0_60 : Index := 0#32
  let c0_61 : Index := 0#32
  ![v106.toNat, 0, 0]
def k0_off2 (k0_t1 : Fin k0_t1_loop.trips) : Fin 2 → Nat :=
  let c0_i32 : BitVec 32 := 0#32
  let c1_i32 : BitVec 32 := 1#32
  let arg19 : BitVec 32 := Scf.iv c0_i32 c1_i32 k0_t1
  let v114 : Index := Scalar.indexCast arg19
  let c0_64 : Index := 0#32
  ![v114.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S64x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x64x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x64x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceIdeal.lean ====
abbrev S16384x64 : Shape := ⟨2, ![16384, 64]⟩
abbrev S16384x64x64 : Shape := ⟨3, ![16384, 64, 64]⟩
abbrev S64x64 : Shape := ⟨2, ![64, 64]⟩
abbrev S64 : Shape := ⟨1, ![64]⟩
abbrev S256x129 : Shape := ⟨2, ![256, 129]⟩
abbrev S256x64 : Shape := ⟨2, ![256, 64]⟩
abbrev S256 : Shape := ⟨1, ![256]⟩
abbrev S_ : Shape := ⟨0, ![]⟩
abbrev S16384x1x64 : Shape := ⟨3, ![16384, 1, 64]⟩
abbrev S1x64 : Shape := ⟨2, ![1, 64]⟩
abbrev S16384 : Shape := ⟨1, ![16384]⟩
abbrev S16384x1 : Shape := ⟨2, ![16384, 1]⟩
abbrev S16384x2 : Shape := ⟨2, ![16384, 2]⟩
abbrev S16384x64x1 : Shape := ⟨3, ![16384, 64, 1]⟩
abbrev S16384x64x129 : Shape := ⟨3, ![16384, 64, 129]⟩
abbrev S64x16384x129 : Shape := ⟨3, ![64, 16384, 129]⟩
abbrev S1x16384x129 : Shape := ⟨3, ![1, 16384, 129]⟩
abbrev S16384x129 : Shape := ⟨2, ![16384, 129]⟩
abbrev S129x256 : Shape := ⟨2, ![129, 256]⟩
abbrev S16384x256 : Shape := ⟨2, ![16384, 256]⟩
abbrev S64x256 : Shape := ⟨2, ![64, 256]⟩
abbrev S1x256 : Shape := ⟨2, ![1, 256]⟩

abbrev nBuf : Space → Nat
  | .hbm => 192
  | .vmem => 0
  | .smem => 0
  | _ => 0

abbrev hbmTy0_0 (i : Nat) : BufTy := match i % 128 with
  | 0 => ⟨S16384x64, .f32⟩
  | 1 => ⟨S16384x64, .f32⟩
  | 2 => ⟨S16384x64x64, .f32⟩
  | 3 => ⟨S16384x64x64, .f32⟩
  | 4 => ⟨S16384x64, .f32⟩
  | 5 => ⟨S16384x64, .i1⟩
  | 6 => ⟨S64x64, .f32⟩
  | 7 => ⟨S64x64, .f32⟩
  | 8 => ⟨S64x64, .f32⟩
  | 9 => ⟨S64, .f32⟩
  | 10 => ⟨S256x129, .f32⟩
  | 11 => ⟨S256x64, .f32⟩
  | 12 => ⟨S256, .f32⟩
  | 13 => ⟨S256, .f32⟩
  | 14 => ⟨S_, .f32⟩
  | 15 => ⟨S16384x64, .f32⟩
  | 16 => ⟨S16384x64, .f32⟩
  | 17 => ⟨S16384x1x64, .f32⟩
  | 18 => ⟨S16384x64x64, .f32⟩
  | 19 => ⟨S16384x64x64, .f32⟩
  | 20 => ⟨S64x64, .f32⟩
  | 21 => ⟨S16384x64, .f32⟩
  | 22 => ⟨S64x64, .f32⟩
  | 23 => ⟨S16384x64x64, .f32⟩
  | 24 => ⟨S16384x64, .f32⟩
  | 25 => ⟨S64x64, .f32⟩
  | 26 => ⟨S16384x64, .f32⟩
  | 27 => ⟨S1x64, .f32⟩
  | 28 => ⟨S16384x64, .f32⟩
  | 29 => ⟨S16384x64, .f32⟩
  | 30 => ⟨S16384x64, .i1⟩
  | 31 => ⟨S_, .i1⟩
  | 32 => ⟨S16384, .i1⟩
  | 33 => ⟨S16384x64, .i1⟩
  | 34 => ⟨S16384x64, .f32⟩
  | 35 => ⟨S16384x64, .i32⟩
  | 36 => ⟨S_, .f32⟩
  | 37 => ⟨S_, .i32⟩
  | 38 => ⟨S16384, .f32⟩
  | 39 => ⟨S16384, .i32⟩
  | 40 => ⟨S16384x64, .i32⟩
  | 41 => ⟨S_, .f32⟩
  | 42 => ⟨S_, .i32⟩
  | 43 => ⟨S16384, .f32⟩
  | 44 => ⟨S16384, .i32⟩
  | 45 => ⟨S16384, .i32⟩
  | 46 => ⟨S16384, .i32⟩
  | 47 => ⟨S_, .i32⟩
  | 48 => ⟨S16384, .i32⟩
  | 49 => ⟨S16384, .i1⟩
  | 50 => ⟨S_, .i32⟩
  | 51 => ⟨S16384, .i32⟩
  | 52 => ⟨S16384, .i32⟩
  | 53 => ⟨S16384, .i32⟩
  | 54 => ⟨S_, .i32⟩
  | 55 => ⟨S16384, .i32⟩
  | 56 => ⟨S16384, .i1⟩
  | 57 => ⟨S_, .i32⟩
  | 58 => ⟨S16384, .i32⟩
  | 59 => ⟨S16384, .i32⟩
  | 60 => ⟨S16384, .i32⟩
  | 61 => ⟨S16384x1, .i32⟩
  | 62 => ⟨S16384x1, .i32⟩
  | 63 => ⟨S16384x2, .i32⟩
  | 64 => ⟨S16384x64x64, .f32⟩
  | 65 => ⟨S_, .i32⟩
  | 66 => ⟨S16384, .i32⟩
  | 67 => ⟨S16384, .i1⟩
  | 68 => ⟨S_, .i32⟩
  | 69 => ⟨S16384, .i32⟩
  | 70 => ⟨S16384, .i32⟩
  | 71 => ⟨S16384, .i32⟩
  | 72 => ⟨S_, .i32⟩
  | 73 => ⟨S16384, .i32⟩
  | 74 => ⟨S16384, .i1⟩
  | 75 => ⟨S_, .i32⟩
  | 76 => ⟨S16384, .i32⟩
  | 77 => ⟨S16384, .i32⟩
  | 78 => ⟨S16384, .i32⟩
  | 79 => ⟨S16384x1, .i32⟩
  | 80 => ⟨S16384x1, .i32⟩
  | 81 => ⟨S16384x2, .i32⟩
  | 82 => ⟨S16384x64x64, .f32⟩
  | 83 => ⟨S_, .i32⟩
  | 84 => ⟨S16384, .i32⟩
  | 85 => ⟨S16384, .i1⟩
  | 86 => ⟨S_, .i32⟩
  | 87 => ⟨S16384, .i32⟩
  | 88 => ⟨S16384, .i32⟩
  | 89 => ⟨S16384, .i32⟩
  | 90 => ⟨S_, .i32⟩
  | 91 => ⟨S16384, .i32⟩
  | 92 => ⟨S16384, .i1⟩
  | 93 => ⟨S_, .i32⟩
  | 94 => ⟨S16384, .i32⟩
  | 95 => ⟨S16384, .i32⟩
  | 96 => ⟨S16384, .i32⟩
  | 97 => ⟨S16384x1, .i32⟩
  | 98 => ⟨S16384x1, .i32⟩
  | 99 => ⟨S16384x2, .i32⟩
  | 100 => ⟨S_, .f32⟩
  | 101 => ⟨S16384, .f32⟩
  | 102 => ⟨S16384x64, .f32⟩
  | 103 => ⟨S_, .i32⟩
  | 104 => ⟨S16384, .i32⟩
  | 105 => ⟨S16384, .i1⟩
  | 106 => ⟨S_, .i32⟩
  | 107 => ⟨S16384, .i32⟩
  | 108 => ⟨S16384, .i32⟩
  | 109 => ⟨S16384, .i32⟩
  | 110 => ⟨S_, .i32⟩
  | 111 => ⟨S16384, .i32⟩
  | 112 => ⟨S16384, .i1⟩
  | 113 => ⟨S_, .i32⟩
  | 114 => ⟨S16384, .i32⟩
  | 115 => ⟨S16384, .i32⟩
  | 116 => ⟨S16384, .i32⟩
  | 117 => ⟨S16384x1, .i32⟩
  | 118 => ⟨S16384x1, .i32⟩
  | 119 => ⟨S16384x2, .i32⟩
  | 120 => ⟨S_, .i1⟩
  | 121 => ⟨S16384, .i1⟩
  | 122 => ⟨S16384x64, .i1⟩
  | 123 => ⟨S16384x64x1, .f32⟩
  | 124 => ⟨S16384x64x129, .f32⟩
  | 125 => ⟨S_, .f32⟩
  | 126 => ⟨S16384x64, .f32⟩
  | 127 => ⟨S_, .f32⟩
  | _ => ⟨S16384x64, .f32⟩

abbrev hbmTy0_1 (i : Nat) : BufTy := match i % 128 with
  | 0 => ⟨S16384x64, .f32⟩
  | 1 => ⟨S64x16384x129, .f32⟩
  | 2 => ⟨S_, .i32⟩
  | 3 => ⟨S64x16384x129, .f32⟩
  | 4 => ⟨S256x129, .f32⟩
  | 5 => ⟨S256x64, .f32⟩
  | 6 => ⟨S256, .f32⟩
  | 7 => ⟨S256, .f32⟩
  | 8 => ⟨S_, .i32⟩
  | 9 => ⟨S16384x64, .f32⟩
  | 10 => ⟨S16384x64, .f32⟩
  | 11 => ⟨S_, .i32⟩
  | 12 => ⟨S_, .i1⟩
  | 13 => ⟨S_, .i32⟩
  | 14 => ⟨S_, .i32⟩
  | 15 => ⟨S1x16384x129, .f32⟩
  | 16 => ⟨S16384x129, .f32⟩
  | 17 => ⟨S129x256, .f32⟩
  | 18 => ⟨S16384x256, .f32⟩
  | 19 => ⟨S64x256, .f32⟩
  | 20 => ⟨S16384x256, .f32⟩
  | 21 => ⟨S16384x256, .f32⟩
  | 22 => ⟨S1x256, .f32⟩
  | 23 => ⟨S16384x256, .f32⟩
  | 24 => ⟨S16384x256, .f32⟩
  | 25 => ⟨S1x256, .f32⟩
  | 26 => ⟨S16384x256, .f32⟩
  | 27 => ⟨S16384x256, .f32⟩
  | 28 => ⟨S16384x64, .f32⟩
  | 29 => ⟨S16384x64, .f32⟩
  | 30 => ⟨S16384x64, .f32⟩
  | 31 => ⟨S16384x64, .f32⟩
  | 32 => ⟨S16384x64, .f32⟩
  | 33 => ⟨S16384x64, .f32⟩
  | 34 => ⟨S_, .f32⟩
  | 35 => ⟨S16384x64, .f32⟩
  | 36 => ⟨S16384x64, .f32⟩
  | 37 => ⟨S_, .f32⟩
  | 38 => ⟨S16384x64, .f32⟩
  | 39 => ⟨S16384x64, .f32⟩
  | 40 => ⟨S16384x64, .f32⟩
  | 41 => ⟨S16384x64, .f32⟩
  | 42 => ⟨S_, .f32⟩
  | 43 => ⟨S16384x64, .f32⟩
  | 44 => ⟨S16384x64, .f32⟩
  | 45 => ⟨S_, .f32⟩
  | 46 => ⟨S16384x64, .f32⟩
  | 47 => ⟨S16384x64, .f32⟩
  | 48 => ⟨S16384x64, .f32⟩
  | 49 => ⟨S16384x64, .f32⟩
  | 50 => ⟨S16384x64, .f32⟩
  | 51 => ⟨S_, .f32⟩
  | 52 => ⟨S16384x64, .f32⟩
  | 53 => ⟨S16384x64, .f32⟩
  | 54 => ⟨S_, .f32⟩
  | 55 => ⟨S16384x64, .f32⟩
  | 56 => ⟨S16384x64, .f32⟩
  | 57 => ⟨S16384x64, .f32⟩
  | 58 => ⟨S16384x64, .f32⟩
  | 59 => ⟨S16384x64, .f32⟩
  | 60 => ⟨S16384x64, .f32⟩
  | 61 => ⟨S16384x64, .f32⟩
  | 62 => ⟨S_, .i32⟩
  | 63 => ⟨S_, .i32⟩
  | _ => ⟨S16384x64, .f32⟩

abbrev hbmTy (i : Nat) : BufTy := match i / 128 with
  | 0 => hbmTy0_0 i
  | 1 => hbmTy0_1 i
  | _ => ⟨S16384x64, .f32⟩

abbrev bufTy : (tb : Table) → Fin (tcTables nBuf tb) → BufTy
  | .hbm, ⟨i, _⟩ => hbmTy i
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_v0 : Ref sig .tc := ⟨.hbm, 35, rfl⟩
abbrev main_call0_cst : Ref sig .tc := ⟨.hbm, 36, rfl⟩
abbrev main_call0_c : Ref sig .tc := ⟨.hbm, 37, rfl⟩
abbrev main_call0_v1_0 : Ref sig .tc := ⟨.hbm, 38, rfl⟩
abbrev main_v19 : Ref sig .tc := ⟨.hbm, 39, rfl⟩
abbrev main_call1_v0 : Ref sig .tc := ⟨.hbm, 40, rfl⟩
abbrev main_call1_cst : Ref sig .tc := ⟨.hbm, 41, rfl⟩
abbrev main_call1_c : Ref sig .tc := ⟨.hbm, 42, rfl⟩
abbrev main_call1_v1_0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_0 : Ref sig .tc := ⟨.hbm, 47, rfl⟩
abbrev main_v23 : Ref sig .tc := ⟨.hbm, 48, rfl⟩
abbrev main_v24 : Ref sig .tc := ⟨.hbm, 49, rfl⟩
abbrev main_c_1 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_2 : Ref sig .tc := ⟨.hbm, 54, rfl⟩
abbrev main_v28 : Ref sig .tc := ⟨.hbm, 55, rfl⟩
abbrev main_v29 : Ref sig .tc := ⟨.hbm, 56, rfl⟩
abbrev main_c_3 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_4 : Ref sig .tc := ⟨.hbm, 65, rfl⟩
abbrev main_v37 : Ref sig .tc := ⟨.hbm, 66, rfl⟩
abbrev main_v38 : Ref sig .tc := ⟨.hbm, 67, rfl⟩
abbrev main_c_5 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_c_6 : Ref sig .tc := ⟨.hbm, 72, rfl⟩
abbrev main_v42 : Ref sig .tc := ⟨.hbm, 73, rfl⟩
abbrev main_v43 : Ref sig .tc := ⟨.hbm, 74, rfl⟩
abbrev main_c_7 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_8 : Ref sig .tc := ⟨.hbm, 83, rfl⟩
abbrev main_v51 : Ref sig .tc := ⟨.hbm, 84, rfl⟩
abbrev main_v52 : Ref sig .tc := ⟨.hbm, 85, rfl⟩
abbrev main_c_9 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_10 : Ref sig .tc := ⟨.hbm, 90, rfl⟩
abbrev main_v56 : Ref sig .tc := ⟨.hbm, 91, rfl⟩
abbrev main_v57 : Ref sig .tc := ⟨.hbm, 92, rfl⟩
abbrev main_c_11 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_12 : Ref sig .tc := ⟨.hbm, 100, rfl⟩
abbrev main_v64 : Ref sig .tc := ⟨.hbm, 101, rfl⟩
abbrev main_v65 : Ref sig .tc := ⟨.hbm, 102, rfl⟩
abbrev main_c_13 : Ref sig .tc := ⟨.hbm, 103, rfl⟩
abbrev main_v66 : Ref sig .tc := ⟨.hbm, 104, rfl⟩
abbrev main_v67 : Ref sig .tc := ⟨.hbm, 105, rfl⟩
abbrev main_c_14 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_c_15 : Ref sig .tc := ⟨.hbm, 110, rfl⟩
abbrev main_v71 : Ref sig .tc := ⟨.hbm, 111, rfl⟩
abbrev main_v72 : Ref sig .tc := ⟨.hbm, 112, rfl⟩
abbrev main_c_16 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_c_17 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_18 : Ref sig .tc := ⟨.hbm, 125, rfl⟩
abbrev main_v83 : Ref sig .tc := ⟨.hbm, 126, rfl⟩
abbrev main_cst_19 : Ref sig .tc := ⟨.hbm, 127, rfl⟩
abbrev main_v84 : Ref sig .tc := ⟨.hbm, 128, rfl⟩
abbrev main_v85 : Ref sig .tc := ⟨.hbm, 129, rfl⟩
abbrev main_c_20 : Ref sig .tc := ⟨.hbm, 130, rfl⟩
abbrev main_v86_0 : Ref sig .tc := ⟨.hbm, 131, rfl⟩
abbrev main_v86_1 : Ref sig .tc := ⟨.hbm, 132, rfl⟩
abbrev main_v86_2 : Ref sig .tc := ⟨.hbm, 133, rfl⟩
abbrev main_v86_3 : Ref sig .tc := ⟨.hbm, 134, rfl⟩
abbrev main_v86_4 : Ref sig .tc := ⟨.hbm, 135, rfl⟩
abbrev main_v86_5 : Ref sig .tc := ⟨.hbm, 136, rfl⟩
abbrev main_v86_6 : Ref sig .tc := ⟨.hbm, 137, rfl⟩
abbrev main_v86_7 : Ref sig .tc := ⟨.hbm, 138, rfl⟩
abbrev main_while0c_c_28 : Ref sig .tc := ⟨.hbm, 139, rfl⟩
abbrev main_while0c_v87 : Ref sig .tc := ⟨.hbm, 140, rfl⟩
abbrev main_while0b_call3_c : Ref sig .tc := ⟨.hbm, 141, rfl⟩
abbrev main_while0b_call3_c_0 : Ref sig .tc := ⟨.hbm, 142, rfl⟩
abbrev main_while0b_call3_v0 : Ref sig .tc := ⟨.hbm, 143, rfl⟩
abbrev main_while0b_v87 : Ref sig .tc := ⟨.hbm, 144, rfl⟩
abbrev main_while0b_v88 : Ref sig .tc := ⟨.hbm, 145, rfl⟩
abbrev main_while0b_v89 : Ref sig .tc := ⟨.hbm, 146, rfl⟩
abbrev main_while0b_v90 : Ref sig .tc := ⟨.hbm, 147, rfl⟩
abbrev main_while0b_v91 : Ref sig .tc := ⟨.hbm, 148, rfl⟩
abbrev main_while0b_v92 : Ref sig .tc := ⟨.hbm, 149, rfl⟩
abbrev main_while0b_v93 : Ref sig .tc := ⟨.hbm, 150, rfl⟩
abbrev main_while0b_v94 : Ref sig .tc := ⟨.hbm, 151, rfl⟩
abbrev main_while0b_v95 : Ref sig .tc := ⟨.hbm, 152, rfl⟩
abbrev main_while0b_v96 : Ref sig .tc := ⟨.hbm, 153, rfl⟩
abbrev main_while0b_v97 : Ref sig .tc := ⟨.hbm, 154, rfl⟩
abbrev main_while0b_v98 : Ref sig .tc := ⟨.hbm, 155, rfl⟩
abbrev main_while0b_v99 : Ref sig .tc := ⟨.hbm, 156, rfl⟩
abbrev main_while0b_v100 : Ref sig .tc := ⟨.hbm, 157, rfl⟩
abbrev main_while0b_v101 : Ref sig .tc := ⟨.hbm, 158, rfl⟩
abbrev main_while0b_v102 : Ref sig .tc := ⟨.hbm, 159, rfl⟩
abbrev main_while0b_v103 : Ref sig .tc := ⟨.hbm, 160, rfl⟩
abbrev main_while0b_v104 : Ref sig .tc := ⟨.hbm, 161, rfl⟩
abbrev main_while0b_cst_28 : Ref sig .tc := ⟨.hbm, 162, rfl⟩
abbrev main_while0b_v105 : Ref sig .tc := ⟨.hbm, 163, rfl⟩
abbrev main_while0b_v106 : Ref sig .tc := ⟨.hbm, 164, rfl⟩
abbrev main_while0b_cst_29 : Ref sig .tc := ⟨.hbm, 165, rfl⟩
abbrev main_while0b_v107 : Ref sig .tc := ⟨.hbm, 166, rfl⟩
abbrev main_while0b_v108 : Ref sig .tc := ⟨.hbm, 167, rfl⟩
abbrev main_while0b_v109 : Ref sig .tc := ⟨.hbm, 168, rfl⟩
abbrev main_while0b_v110 : Ref sig .tc := ⟨.hbm, 169, rfl⟩
abbrev main_while0b_cst_30 : Ref sig .tc := ⟨.hbm, 170, rfl⟩
abbrev main_while0b_v111 : Ref sig .tc := ⟨.hbm, 171, rfl⟩
abbrev main_while0b_v112 : Ref sig .tc := ⟨.hbm, 172, rfl⟩
abbrev main_while0b_cst_31 : Ref sig .tc := ⟨.hbm, 173, rfl⟩
abbrev main_while0b_v113 : Ref sig .tc := ⟨.hbm, 174, rfl⟩
abbrev main_while0b_v114 : Ref sig .tc := ⟨.hbm, 175, rfl⟩
abbrev main_while0b_v115 : Ref sig .tc := ⟨.hbm, 176, rfl⟩
abbrev main_while0b_v116 : Ref sig .tc := ⟨.hbm, 177, rfl⟩
abbrev main_while0b_v117 : Ref sig .tc := ⟨.hbm, 178, rfl⟩
abbrev main_while0b_cst_32 : Ref sig .tc := ⟨.hbm, 179, rfl⟩
abbrev main_while0b_v118 : Ref sig .tc := ⟨.hbm, 180, rfl⟩
abbrev main_while0b_v119 : Ref sig .tc := ⟨.hbm, 181, rfl⟩
abbrev main_while0b_cst_33 : Ref sig .tc := ⟨.hbm, 182, rfl⟩
abbrev main_while0b_v120 : Ref sig .tc := ⟨.hbm, 183, rfl⟩
abbrev main_while0b_v121 : Ref sig .tc := ⟨.hbm, 184, rfl⟩
abbrev main_while0b_v122 : Ref sig .tc := ⟨.hbm, 185, rfl⟩
abbrev main_while0b_v123 : Ref sig .tc := ⟨.hbm, 186, rfl⟩
abbrev main_while0b_v124 : Ref sig .tc := ⟨.hbm, 187, rfl⟩
abbrev main_while0b_v125 : Ref sig .tc := ⟨.hbm, 188, rfl⟩
abbrev main_while0b_v126 : Ref sig .tc := ⟨.hbm, 189, rfl⟩
abbrev main_while0b_c_34 : Ref sig .tc := ⟨.hbm, 190, rfl⟩
abbrev main_while0b_v127 : Ref sig .tc := ⟨.hbm, 191, rfl⟩

abbrev nD : Nat := 1
abbrev τ : Topo := Topo.v7x

variable {F : FTy → Type} [FloatOps F]

abbrev main_while0_count : Scf.Loop 32 := ⟨0#32, 64#32, 1#32⟩
-- ==== Proof.RefRun.lean ====
/- The reference's run: what its loop leaves alone, and its frame. -/
module

public import proofs.«01_k».proof.Defs
public import proofs.«01_k».proof.Proof.Gen.ReferenceIdeal.Run
public import Idealize.ShloMosaic.Lib.Quiescent

@[expose] public section

set_option maxRecDepth 16384

noncomputable section

namespace Cert.Proof.Ref

open Idealize.ShloMosaic Idealize.ShloMosaic.TcCoe Idealize.SL.Sem
open Idealize.ShloMosaic.StableHlo
open Cert.ReferenceIdeal Cert.ReferenceIdeal.Gen Cert.ReferenceIdeal.Value

variable (m : (ℓ : Loc nD τ sig) → Buf (Elt Ideal) ℓ)

/-- A buffer that neither the loop's test nor its body writes holds at the end what it held at the loop's entry. -/
theorem atK_keep (c : Dev nD) (b : Ref sig .tc) (hc : b ∉ condOps_W) (h0 : b ∉ while0Ops0_W) (h1 : b ∉ while0Ops0_1_W) :
    ∀ k, atK m k c (Proc.devRef .tc b) = entryContents preI m c (Proc.devRef .tc b)
  | 0 => rfl
  | k + 1 => by
    show after while0Ops0_1 (after while0Ops0 (after condOps (atK m k c))) (Proc.devRef .tc b) = _
    rw [after_of_writes_sub while0Ops0_1 _ while0Ops0_1_writes h1, after_of_writes_sub while0Ops0 _ while0Ops0_writes h0,
      after_of_writes_sub condOps _ condOps_writes hc, atK_keep c b hc h0 h1 k]

/-- Such a buffer at the program's end. -/
theorem final_keep (c : Dev nD) (b : Ref sig .tc) (hc : b ∉ condOps_W) (h0 : b ∉ while0Ops0_W) (h1 : b ∉ while0Ops0_1_W) :
    finalContents condOps preI bodyI postI 64 m c (Proc.devRef .tc b) = entryContents preI m c (Proc.devRef .tc b) := by
  show after condOps (atK m 64 c) (Proc.devRef .tc b) = _
  rw [after_of_writes_sub condOps _ condOps_writes hc, atK_keep m c b hc h0 h1 64]

/-- A buffer that the operations before the loop do not write keeps its launch contents up to the loop. -/
theorem entry_keep (c : Dev nD) (b : Ref sig .tc) (h0 : b ∉ hostOps0_W) (h1 : b ∉ hostOps0_1_W) (h2 : b ∉ hostOps0_2_W)
    (h3 : b ∉ hostOps0_3_W) (h4 : b ∉ hostOps0_4_W) :
    entryContents preI m c (Proc.devRef .tc b) = m ((c.tc : Thread nD τ).loc b) := by
  show after hostOps0_4 (after hostOps0_3 (after hostOps0_2 (after hostOps0_1 (after hostOps0 (launchContents m c)))))
    (Proc.devRef .tc b) = _
  rw [after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- A buffer nothing writes ends as it began. -/
theorem final_arg (c : Dev nD) (b : Ref sig .tc)
    (h : b ∉ hostOps0_W ++ hostOps0_1_W ++ hostOps0_2_W ++ hostOps0_3_W ++ hostOps0_4_W ++ condOps_W ++ while0Ops0_W ++ while0Ops0_1_W) :
    finalContents condOps preI bodyI postI 64 m c (Proc.devRef .tc b) = m ((c.tc : Thread nD τ).loc b) := by
  simp only [List.mem_append, not_or] at h
  obtain ⟨⟨⟨⟨⟨⟨⟨h0, h1⟩, h2⟩, h3⟩, h4⟩, hc⟩, w0⟩, w1⟩ := h
  rw [final_keep m c b hc w0 w1, entry_keep m c b h0 h1 h2 h3 h4]

/-- The arguments are unchanged: a conjunct of every claim about the reference's run. -/
theorem args (c : Dev nD) (mem : (ℓ : Loc nD τ sig) → Buf (Elt Ideal) ℓ)
    (h : ∀ b : Ref sig .tc, (Proc.devRef .tc b : DevRef τ sig).isScoped = false →
      mem ((c.tc : Thread nD τ).loc b) = finalContents condOps preI bodyI postI 64 m c (Proc.devRef .tc b)) :
      mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13) := by
  refine ⟨?_, ?_, ?_, ?_, ?_, ?_, ?_, ?_, ?_, ?_, ?_, ?_, ?_, ?_⟩ <;>
    exact (h _ rfl).trans (final_arg m c _ (by decide))

/-- The reference's frame. -/
theorem frame : Cert.quiescent_ReferenceIdeal := fun m ρ _ =>
  (θ_run Cert.ReferenceIdeal.defs _ _).mono (fun r h => ⟨fun c => args m c r.2.mem (h c),
      Idealize.ShloMosaic.sem_eq_zero_of_no_sems (by decide) r.2⟩)
    (run_fold (F := Ideal) m ρ)

end Cert.Proof.Ref

end
-- ==== Proof.Math.lean ====
/- The scalar mathematics: which slot is written, the slot scores in two orders of summation, and the gates. -/
module

public import Idealize.ShloMosaic.Lib.Pointwise
public import Idealize.ShloMosaic.Lib.NatWords

@[expose] public section

noncomputable section

namespace Cert.Proof

open Idealize.ShloMosaic

/-! ## The slot that a row writes -/

/-- `p` is the slot to write: the first empty one, or, when none is empty, the first whose score is the greatest. -/
def IsPick (e : Fin 64 → Prop) (s : Fin 64 → EReal) (p : Fin 64) : Prop :=
  (e p ∧ ∀ q, q < p → ¬ e q) ∨ ((∀ q, ¬ e q) ∧ (∀ q, s q ≤ s p) ∧ ∀ q, q < p → s q < s p)

theorem IsPick.unique {e : Fin 64 → Prop} {s : Fin 64 → EReal} {p p' : Fin 64} (h : IsPick e s p) (h' : IsPick e s p') :
    p = p' := by
  rcases h with ⟨h1, h2⟩ | ⟨h1, h2, h3⟩ <;> rcases h' with ⟨g1, g2⟩ | ⟨g1, g2, g3⟩
  · rcases lt_trichotomy p p' with h | h | h
    · exact absurd h1 (g2 _ h)
    · exact h
    · exact absurd g1 (h2 _ h)
  · exact absurd h1 (g1 _)
  · exact absurd g1 (h1 _)
  · rcases lt_trichotomy p p' with h | h | h
    · exact absurd (g3 _ h) (not_lt.mpr (h2 _))
    · exact h
    · exact absurd (h3 _ h) (not_lt.mpr (g2 _))

theorem exists_first (e : Fin 64 → Prop) (h : ∃ q, e q) : ∃ p, e p ∧ ∀ q, q < p → ¬ e q := by
  obtain ⟨p, hp, hm⟩ := (wellFounded_lt (α := Fin 64)).has_min {q | e q} h
  exact ⟨p, hp, fun q hq he => hm q he hq⟩

theorem exists_best (s : Fin 64 → EReal) : ∃ p, (∀ q, s q ≤ s p) ∧ ∀ q, q < p → s q < s p := by
  obtain ⟨p0, h0⟩ := Finite.exists_max s
  obtain ⟨p, hp, hm⟩ := exists_first (fun p => ∀ q, s q ≤ s p) ⟨p0, h0⟩
  refine ⟨p, hp, fun q hq => ?_⟩
  have := hm q hq
  push Not at this
  obtain ⟨r, hr⟩ := this
  exact lt_of_lt_of_le hr (hp r)

theorem exists_pick (e : Fin 64 → Prop) (s : Fin 64 → EReal) : ∃ p, IsPick e s p := by
  by_cases h : ∃ q, e q
  · obtain ⟨p, h1, h2⟩ := exists_first e h
    exact ⟨p, Or.inl ⟨h1, h2⟩⟩
  · obtain ⟨p, h1, h2⟩ := exists_best s
    exact ⟨p, Or.inr ⟨fun q hq => h ⟨q, hq⟩, h1, h2⟩⟩

/-- The slot to write. -/
def pick (e : Fin 64 → Prop) (s : Fin 64 → EReal) : Fin 64 := (exists_pick e s).choose

theorem pick_spec (e : Fin 64 → Prop) (s : Fin 64 → EReal) : IsPick e s (pick e s) := (exists_pick e s).choose_spec

theorem pick_eq {e : Fin 64 → Prop} {s : Fin 64 → EReal} {p : Fin 64} (h : IsPick e s p) : pick e s = p :=
  (pick_spec e s).unique h

/-! ## The signed minimum of small words -/

theorem minsi_small {a b : Nat} (ha : a < 2 ^ 31) (hb : b < 2 ^ 31) :
    IntOp.minsi (BitVec.ofNat 32 a) (BitVec.ofNat 32 b) = BitVec.ofNat 32 (min a b) := by
  unfold IntOp.minsi
  have hlt : (BitVec.ofNat 32 a).slt (BitVec.ofNat 32 b) = decide (a < b) := by
    have h : ∀ n : Nat, n < 2 ^ 31 → (BitVec.ofNat 32 n).toInt = n := fun n hn => by
      rw [BitVec.toInt_eq_toNat_of_lt (by rw [BitVec.toNat_ofNat]; omega), BitVec.toNat_ofNat]; omega
    rw [BitVec.slt_eq_decide, h a ha, h b hb]
    exact decide_eq_decide.mpr (by omega)
  rw [hlt]
  by_cases h : a < b
  · simp only [h, decide_true, if_true]; rw [Nat.min_eq_left (Nat.le_of_lt h)]
  · simp only [h, decide_false, Bool.false_eq_true, if_false]; rw [Nat.min_eq_right (by omega)]

theorem fold_minsi {ι : Type} [DecidableEq ι] (g : ι → Nat) (hg : ∀ i, g i < 2 ^ 31) (s : Finset ι) :
    s.fold IntOp.minsi 2147483647#32 (fun k => BitVec.ofNat 32 (g k)) = BitVec.ofNat 32 (s.fold min 2147483647 g)
      ∧ s.fold min 2147483647 g < 2 ^ 31 := by
  induction s using Finset.induction_on with
  | empty => exact ⟨by simp, by simp⟩
  | insert a s ha ih =>
    obtain ⟨h1, h2⟩ := ih
    rw [Finset.fold_insert ha, Finset.fold_insert ha, h1, minsi_small (hg a) h2]
    exact ⟨rfl, lt_of_le_of_lt (min_le_left _ _) (hg a)⟩

/-- The least number whose slot passes the test, as a word. -/
theorem min_word_first (e : Fin 64 → Prop) [DecidablePred e] (p : Fin 64) (hp : e p) (hm : ∀ q, q < p → ¬ e q) :
    (Finset.univ : Finset (Fin 64)).fold IntOp.minsi 2147483647#32 (fun k => if e k then BitVec.ofNat 32 k.val else 64#32)
      = BitVec.ofNat 32 p.val := by
  have hf : (fun k : Fin 64 => if e k then BitVec.ofNat 32 k.val else 64#32)
      = fun k => BitVec.ofNat 32 (if e k then k.val else 64) := by
    funext k; split <;> rfl
  rw [hf, (fold_minsi _ (fun i => by have := i.isLt; split <;> omega) _).1]
  congr 1
  apply le_antisymm
  · exact (Finset.fold_min_le _).2 (Or.inr ⟨p, Finset.mem_univ _, by rw [if_pos hp]⟩)
  · refine (Finset.le_fold_min _).2 ⟨by have := p.isLt; omega, fun q _ => ?_⟩
    by_cases hq : e q
    · rw [if_pos hq]
      exact not_lt.mp fun h => hm q h hq
    · rw [if_neg hq]; have := p.isLt; omega

/-- No slot passes the test: the minimum is the word of 64. -/
theorem min_word_none (e : Fin 64 → Prop) [DecidablePred e] (hm : ∀ q, ¬ e q) :
    (Finset.univ : Finset (Fin 64)).fold IntOp.minsi 2147483647#32 (fun k => if e k then BitVec.ofNat 32 k.val else 64#32)
      = 64#32 := by
  have hf : (fun k : Fin 64 => if e k then BitVec.ofNat 32 k.val else 64#32)
      = fun k => BitVec.ofNat 32 64 := by
    funext k; rw [if_neg (hm k)]
  rw [hf, (fold_minsi (fun _ => 64) (fun i => by omega) _).1]
  show _ = BitVec.ofNat 32 64
  refine congrArg (BitVec.ofNat 32) ?_
  apply le_antisymm
  · exact (Finset.fold_min_le _).2 (Or.inr ⟨0, Finset.mem_univ _, le_refl _⟩)
  · exact (Finset.le_fold_min _).2 ⟨by omega, fun q _ => le_refl _⟩

/-- The maximum of the scores, folded from the bottom, is the picked slot's score. -/
theorem fold_max_best (s : Fin 64 → EReal) (p : Fin 64) (hp : ∀ q, s q ≤ s p) :
    (Finset.univ : Finset (Fin 64)).fold max ⊥ s = s p := by
  apply le_antisymm
  · exact (Finset.fold_max_le _).2 ⟨bot_le, fun q _ => hp q⟩
  · exact (Finset.le_fold_max _).2 (Or.inr ⟨p, Finset.mem_univ _, le_refl _⟩)

/-- The word of the slot to write, as two minima over the slots: the first empty one if that is below 64, else the first
    with the greatest score. -/
theorem pick_word (e : Fin 64 → Prop) [DecidablePred e] (s : Fin 64 → EReal) (w : BitVec 32)
    (hw : w = (Finset.univ : Finset (Fin 64)).fold IntOp.minsi 2147483647#32
      (fun k => if e k then BitVec.ofNat 32 k.val else 64#32)) :
    (if BitVec.slt w 64#32 then w
      else (Finset.univ : Finset (Fin 64)).fold IntOp.minsi 2147483647#32
        (fun k => if s k = (Finset.univ : Finset (Fin 64)).fold max ⊥ s then BitVec.ofNat 32 k.val else 64#32))
      = BitVec.ofNat 32 (pick e s).val := by
  rcases pick_spec e s with ⟨h1, h2⟩ | ⟨h1, h2, h3⟩
  · rw [hw, min_word_first e _ h1 h2, if_pos]
    generalize pick e s = p
    revert p; decide
  · rw [hw, min_word_none e h1, if_neg (by decide)]
    rw [min_word_first _ (pick e s) (fold_max_best s _ h2).symm]
    intro q hq
    rw [fold_max_best s _ h2]
    exact ne_of_lt (h3 q hq)

theorem word_inj (p q : Fin 64) : BitVec.ofNat 32 p.val = BitVec.ofNat 32 q.val ↔ p = q := by
  constructor
  · intro h
    have := congrArg BitVec.toNat h
    simp only [BitVec.toNat_ofNat] at this
    apply Fin.ext; have := p.isLt; have := q.isLt; omega
  · rintro rfl; rfl

/-! ## The slot scores -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is neither infinity. -/
def Fin' (x : EReal) : Prop := x ≠ ⊤ ∧ x ≠ ⊥

/-- Applying the two projections to the query one after the other gives the same score as multiplying keys with queries,
    when every entry is finite. -/
theorem score_eq (S : Fin 64 → EReal) (Wk Wq : Fin 64 → Fin 64 → EReal) (x : Fin 64 → EReal)
    (hS : ∀ d, Fin' (S d)) (hk : ∀ h d, Fin' (Wk h d)) (hq : ∀ h d, Fin' (Wq h d)) (hx : ∀ d, Fin' (x d)) :
    (∑ d, S d * ∑ h, Wk h d * ∑ e, Wq h e * x e) = ∑ h, (∑ d, S d * Wk h d) * ∑ e, x e * Wq h e := by
  have aS : ∀ d, S d = ((S d).toReal : EReal) := fun d => (EReal.coe_toReal (hS d).1 (hS d).2).symm
  have ak : ∀ h d, Wk h d = ((Wk h d).toReal : EReal) := fun h d => (EReal.coe_toReal (hk h d).1 (hk h d).2).symm
  have aq : ∀ h d, Wq h d = ((Wq h d).toReal : EReal) := fun h d => (EReal.coe_toReal (hq h d).1 (hq h d).2).symm
  have ax : ∀ d, x d = ((x d).toReal : EReal) := fun d => (EReal.coe_toReal (hx d).1 (hx d).2).symm
  generalize hS' : (fun d => (S d).toReal) = S' at *
  generalize hk' : (fun h d => (Wk h d).toReal) = k' at *
  generalize hq' : (fun h d => (Wq h d).toReal) = q' at *
  generalize hx' : (fun d => (x d).toReal) = x' at *
  have bS : ∀ d, S d = (S' d : EReal) := fun d => by rw [← hS']; exact aS d
  have bk : ∀ h d, Wk h d = (k' h d : EReal) := fun h d => by rw [← hk']; exact ak h d
  have bq : ∀ h d, Wq h d = (q' h d : EReal) := fun h d => by rw [← hq']; exact aq h d
  have bx : ∀ d, x d = (x' d : EReal) := fun d => by rw [← hx']; exact ax d
  simp only [bS, bk, bq, bx, ← EReal.coe_mul, ← coe_sum]
  congr 1
  simp only [Finset.mul_sum, Finset.sum_mul]
  rw [Finset.sum_comm]
  refine Finset.sum_congr rfl fun h _ => ?_
  conv_rhs => rw [Finset.sum_comm]
  refine Finset.sum_congr rfl fun d _ => Finset.sum_congr rfl fun e _ => by ring

/-! ## The gates -/

theorem half_bits : Ideal.ofBits .f32 0x3F000000#32 = ((1 / 2 : ℝ) : EReal) := by
  simp [Ideal.ofBits, Ideal.ieee, -EReal.coe_mul]; norm_num

theorem bot_bits : Ideal.ofBits .f32 0xFF800000#32 = (⊥ : EReal) := by
  simp [Ideal.ofBits, Ideal.ieee, -EReal.coe_mul]

theorem top_bits : Ideal.ofBits .f32 0x7F800000#32 = (⊤ : EReal) := by
  simp [Ideal.ofBits, Ideal.ieee, -EReal.coe_mul]

/-- The logistic function. -/
def sgm (y : EReal) : EReal := Ideal.div 1 (1 + Ideal.exp (-y))

theorem tanh_half (r : ℝ) : (1 / 2 : ℝ) * Real.tanh (1 / 2 * r) + 1 / 2 = 1 / (1 + Real.exp (-r)) := by
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add]; simp
  rw [Real.tanh_eq_sinh_div_cosh, Real.sinh_eq, Real.cosh_eq, h1]
  have ha := Real.exp_pos (1 / 2 * r)
  have hb := Real.exp_pos (-(1 / 2 * r))
  generalize Real.exp (1 / 2 * r) = a at *
  generalize Real.exp (-(1 / 2 * r)) = b at *
  have hs : a + b ≠ 0 := by positivity
  have hs' : 1 + b * b ≠ 0 := by positivity
  field_simp
  nlinarith [h2]

/-- A gate computed with the hyperbolic tangent of half its argument is the logistic gate. -/
theorem gate_sig (y : EReal) :
    ((1 / 2 : ℝ) : EReal) * Ideal.tanh (((1 / 2 : ℝ) : EReal) * y) + ((1 / 2 : ℝ) : EReal) = sgm y := by
  unfold sgm
  induction y with
  | bot =>
    rw [EReal.coe_mul_bot_of_pos (by norm_num), Ideal.tanh_bot, EReal.neg_bot, Ideal.exp_top]
    have h : (1 : EReal) + ⊤ = ⊤ := by rfl
    rw [h, Ideal.div]
    norm_num
    norm_cast
    norm_num
  | top =>
    rw [EReal.coe_mul_top_of_pos (by norm_num), Ideal.tanh_top, EReal.neg_top, Ideal.exp_bot, add_zero, mul_one,
      ← EReal.coe_add, Ideal.div, if_neg one_ne_zero]
    norm_num
  | coe r =>
    rw [← EReal.coe_mul, Ideal.tanh_coe, ← EReal.coe_mul, ← EReal.coe_add, tanh_half, ← EReal.coe_neg, Ideal.exp_coe,
      ← EReal.coe_one, ← EReal.coe_add, Ideal.div_coe (by positivity), ← EReal.coe_mul, one_mul]

theorem scale_sum {ι : Type} [Fintype ι] (c : ℝ) (hc : 0 ≤ c) (w v : ι → EReal) :
    (∑ e, w e * (c : EReal) * v e) = (c : EReal) * ∑ e, w e * v e := by
  have h : ∀ s : Finset ι, (∑ e ∈ s, w e * (c : EReal) * v e) = (c : EReal) * ∑ e ∈ s, w e * v e := by
    classical
    intro s
    induction s using Finset.induction_on with
    | empty => simp
    | insert a s ha ih =>
      rw [Finset.sum_insert ha, Finset.sum_insert ha, ih,
        EReal.left_distrib_of_nonneg_of_ne_top (EReal.coe_nonneg.mpr hc) (EReal.coe_ne_top c)]
      congr 1
      rw [mul_comm (w a) (c : EReal), mul_assoc]
  exact h _

/-- The input weights against a slot's memory row: slot, cumulative feature, time. -/
def gateArg (Wi : Fin 129 → EReal) (Wh : Fin 64 → EReal) (bi bh : EReal) (s u : Fin 64 → EReal) (d : EReal)
    (h : Fin 64 → EReal) : EReal :=
  (((∑ e : Fin 64, Wi ⟨e.val, by omega⟩ * s e) + ∑ e : Fin 64, Wi ⟨64 + e.val, by omega⟩ * u e) + ∑ e, Wh e * h e)
    + Wi ⟨128, by omega⟩ * d + (bi + bh)

/-- Scaling every weight of a gate scales its argument. -/
theorem gate_scaled (c : ℝ) (hc : 0 ≤ c) (Wi : Fin 129 → EReal) (Wh : Fin 64 → EReal) (bi bh : EReal)
    (s u : Fin 64 → EReal) (d : EReal) (h : Fin 64 → EReal) :
    (((∑ e : Fin 64, Wi ⟨e.val, by omega⟩ * (c : EReal) * s e) + ∑ e : Fin 64, Wi ⟨64 + e.val, by omega⟩ * (c : EReal) * u e)
        + ∑ e, Wh e * (c : EReal) * h e)
      + Wi ⟨128, by omega⟩ * (c : EReal) * d + (bi + bh) * (c : EReal) = (c : EReal) * gateArg Wi Wh bi bh s u d h := by
  have hd := fun y z : EReal => EReal.left_distrib_of_nonneg_of_ne_top (x := (c : EReal)) (EReal.coe_nonneg.mpr hc)
    (EReal.coe_ne_top c) y z
  unfold gateArg
  rw [scale_sum c hc (fun e : Fin 64 => Wi ⟨e.val, by omega⟩) s, scale_sum c hc (fun e : Fin 64 => Wi ⟨64 + e.val, by omega⟩) u,
    scale_sum c hc Wh h, hd, hd, hd, hd, mul_comm (Wi ⟨128, by omega⟩) (c : EReal), mul_assoc, mul_comm (bi + bh)]

/-- The gate's argument with the weights on the right and the biases added one after the other. -/
theorem gateArg_ref (Wi : Fin 129 → EReal) (Wh : Fin 64 → EReal) (bi bh : EReal) (s u : Fin 64 → EReal) (d : EReal)
    (h : Fin 64 → EReal) :
    ((((∑ e : Fin 64, s e * Wi ⟨e.val, by omega⟩) + ∑ e : Fin 64, u e * Wi ⟨64 + e.val, by omega⟩) + d * Wi ⟨128, by omega⟩)
      + ∑ e, h e * Wh e) + bi + bh = gateArg Wi Wh bi bh s u d h := by
  unfold gateArg
  simp only [mul_comm (Wi _), mul_comm (Wh _)]
  abel

/-! ## The recurrence -/

/-- The weights of the recurrence. -/
structure Wts where
  Wi : Fin 256 → Fin 129 → EReal
  Wh : Fin 256 → Fin 64 → EReal
  bi : Fin 256 → EReal
  bh : Fin 256 → EReal

/-- The argument of gate row `k`. -/
def Wts.arg (W : Wts) (s u : Fin 64 → EReal) (d : EReal) (h : Fin 64 → EReal) (k : Fin 256) : EReal :=
  gateArg (W.Wi k) (W.Wh k) (W.bi k) (W.bh k) s u d h

/-- The cell state after one step. -/
def Wts.cell (W : Wts) (s u : Fin 64 → EReal) (d : EReal) (h c : Fin 64 → EReal) (j : Fin 64) : EReal :=
  sgm (W.arg s u d h ⟨64 + j.val, by omega⟩) * c j
    + sgm (W.arg s u d h ⟨j.val, by omega⟩) * Ideal.tanh (W.arg s u d h ⟨128 + j.val, by omega⟩)

/-- The hidden state after one step. -/
def Wts.hid (W : Wts) (s u : Fin 64 → EReal) (d : EReal) (h c : Fin 64 → EReal) (j : Fin 64) : EReal :=
  sgm (W.arg s u d h ⟨192 + j.val, by omega⟩) * Ideal.tanh (W.cell s u d h c j)

/-- Hidden and cell state after the first `k` slots, from zero. -/
def Wts.run (W : Wts) (S U : Fin 64 → Fin 64 → EReal) (d : Fin 64 → EReal) : Nat → (Fin 64 → EReal) × (Fin 64 → EReal)
  | 0 => (fun _ => 0, fun _ => 0)
  | k + 1 =>
    if hk : k < 64 then
      (W.hid (S ⟨k, hk⟩) (U ⟨k, hk⟩) (d ⟨k, hk⟩) (W.run S U d k).1 (W.run S U d k).2,
       W.cell (S ⟨k, hk⟩) (U ⟨k, hk⟩) (d ⟨k, hk⟩) (W.run S U d k).1 (W.run S U d k).2)
    else W.run S U d k

end Cert.Proof
-- ==== Proof.RefPick.lean ====
/- The reference's argmax, and its scatters at one slot of each row. -/
module

public import proofs.«01_k».proof.Proof.RefRun
public import proofs.«01_k».proof.Proof.Math
public import Idealize.ShloMosaic.Lib.Pointwise
public import Idealize.ShloMosaic.Lib.Routing.OpsOne
public import Idealize.ShloMosaic.Lib.Routing.OpsOrder
public import Idealize.ShloMosaic.PureOps.Reduce
public import Idealize.ShloMosaic.PureOps.Ideal.Laws

@[expose] public section

set_option maxRecDepth 16384

noncomputable section

namespace Cert.Proof.Ref

open Idealize.ShloMosaic
open Cert.ReferenceIdeal Cert.ReferenceIdeal.Gen

/-! ## The argmax -/

/-- `r` beats `p`, or ties with it at a place not after it. -/
def Beats (r p : EReal × BitVec 32) : Prop := p.1 < r.1 ∨ (p.1 = r.1 ∧ r.2.toInt ≤ p.2.toInt)

theorem Beats.refl (r : EReal × BitVec 32) : Beats r r := Or.inr ⟨rfl, le_rfl⟩

theorem Beats.trans {r p q : EReal × BitVec 32} (h : Beats r p) (g : Beats p q) : Beats r q := by
  rcases h with h | ⟨h, h'⟩ <;> rcases g with g | ⟨g, g'⟩
  · exact Or.inl (g.trans h)
  · exact Or.inl (g ▸ h)
  · exact Or.inl (h ▸ g)
  · exact Or.inr ⟨g.trans h, h'.trans g'⟩

/-- The argmax's body keeps one of its two pairs, one that beats both. -/
theorem body_picks (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨x, i⟩ := a
  obtain ⟨y, j⟩ := b
  have e : reducer_argmax_f32_i32 (F := Ideal) (x, i) (y, j)
      = (if y < x then x else y, if y < x ∨ (x = y ∧ i.toInt < j.toInt) then i else j) := by
    unfold reducer_argmax_f32_i32
    simp only [Ideal.cmpf_def, Ideal.cmp, IntOp.cmpi, IntOp.ori, IntOp.andi, Scalar.select, BitVec.slt]
    by_cases h1 : y < x <;> by_cases h2 : x = y <;> by_cases h3 : i.toInt < j.toInt <;> simp [h1, h2, h3]
  rw [e]
  by_cases h1 : y < x
  · rw [if_pos h1, if_pos (Or.inl h1)]
    exact ⟨Or.inl rfl, Beats.refl _, Or.inl h1⟩
  · by_cases h2 : x = y
    · by_cases h3 : i.toInt < j.toInt
      · rw [if_neg h1, if_pos (Or.inr ⟨h2, h3⟩), ← h2]
        exact ⟨Or.inl rfl, Beats.refl _, Or.inr ⟨rfl, h3.le⟩⟩
      · rw [if_neg h1, if_neg (by rintro (h | ⟨_, h⟩); exacts [h1 h, h3 h])]
        exact ⟨Or.inr rfl, Or.inr ⟨h2, not_lt.1 h3⟩, Beats.refl _⟩
    · rw [if_neg h1, if_neg (by rintro (h | ⟨h, _⟩); exacts [h1 h, h2 h])]
      exact ⟨Or.inr rfl, Or.inl (lt_of_le_of_ne (not_lt.1 h1) h2), Beats.refl _⟩

theorem foldl_picks (l : List (EReal × BitVec 32)) : ∀ a,
    (l.foldl (reducer_argmax_f32_i32 (F := Ideal)) a = a ∨ l.foldl (reducer_argmax_f32_i32 (F := Ideal)) a ∈ l)
      ∧ Beats (l.foldl (reducer_argmax_f32_i32 (F := Ideal)) a) a
      ∧ ∀ p ∈ l, Beats (l.foldl (reducer_argmax_f32_i32 (F := Ideal)) a) p := by
  induction l with
  | nil => exact fun a => ⟨Or.inl rfl, Beats.refl a, fun p hp => absurd hp List.not_mem_nil⟩
  | cons b l ih =>
    intro a
    rw [List.foldl_cons]
    obtain ⟨h1, h2, h3⟩ := ih (reducer_argmax_f32_i32 (F := Ideal) a b)
    obtain ⟨g1, g2, g3⟩ := body_picks a b
    refine ⟨?_, h2.trans g2, fun p hp => ?_⟩
    · rcases h1 with h1 | h1
      · rw [h1]
        rcases g1 with g1 | g1
        · exact Or.inl g1
        · exact Or.inr (by rw [g1]; exact List.mem_cons_self)
      · exact Or.inr (List.mem_cons_of_mem _ h1)
    · rcases List.mem_cons.1 hp with h | h
      · rw [h]; exact h2.trans g3
      · exact h3 p h

/-- The pairs of row `b`. -/
theorem mem_row {α β : Type} (x : S16384x64.Idx → α) (y : S16384x64.Idx → β) (b : Fin 16384) (p : α × β) :
    p ∈ Host.argReduceFiber x y reducesTo_S16384x64_S16384_d1 (ix1 b) ↔ ∃ k : Fin 64, p = (x (ix2 b k), y (ix2 b k)) := by
  have hd : ∀ i : S16384x64.Idx, reducesTo_S16384x64_S16384_d1.drop i = ix1 b ↔ i 0 = b := by
    intro i
    constructor
    · intro h
      have := congrArg Fin.val (congrFun h 0)
      exact Fin.ext this
    · intro h
      funext a
      match a with
      | ⟨0, _⟩ => exact Fin.ext (congrArg Fin.val h)
  unfold Host.argReduceFiber
  rw [List.mem_map]
  constructor
  · rintro ⟨n, hn, rfl⟩
    have h0 := (hd _).1 (of_decide_eq_true (List.mem_filter.1 hn).2)
    refine ⟨(S16384x64.rowMajor.symm n) 1, ?_⟩
    have hk : ∀ k : S16384x64.Idx, k = ix2 (k 0) (k 1) := fun k => by idx_vars k; rfl
    have e : S16384x64.rowMajor.symm n = ix2 b ((S16384x64.rowMajor.symm n) 1) := by
      rw [← h0]
      exact hk _
    exact Prod.ext (congrArg x e) (congrArg y e)
  · rintro ⟨k, rfl⟩
    refine ⟨S16384x64.rowMajor (ix2 b k), List.mem_filter.2 ⟨List.mem_finRange _, decide_eq_true ?_⟩, ?_⟩
    · rw [Equiv.symm_apply_apply]; exact (hd _).2 rfl
    · rw [Equiv.symm_apply_apply]

/-- The reference's argmax of a row: the first place of the row's largest value. -/
theorem argmax_row (x : FVec Ideal S16384x64 .f32) (b : Fin 16384) :
    ∃ p : Fin 64, (Host.argReduce reducer_argmax_f32_i32 x (iotaInDim S16384x64 32 1) (constant S_ .f32 0xFF800000#32)
        (constantI S_ 32 0#32) reducesTo_S16384x64_S16384_d1 h_S_ (ix1 b)).2 = BitVec.ofNat 32 p.val
      ∧ ∀ q : Fin 64, x (ix2 b q) < x (ix2 b p) ∨ (x (ix2 b q) = x (ix2 b p) ∧ p ≤ q) := by
  have hy : ∀ k : Fin 64, iotaInDim S16384x64 32 1 (ix2 b k) = BitVec.ofNat 32 k.val := fun k => rfl
  have hi : ∀ k : Fin 64, (BitVec.ofNat 32 k.val).toInt = (k.val : Int) := fun k =>
    StableHlo.Predicate.toInt_ofNat_small _ (by omega)
  rw [Ideal.argReduce_eq_reduce2, Host.reduce2_eq_foldl_fiber]
  set l := Host.argReduceFiber x (iotaInDim S16384x64 32 1) reducesTo_S16384x64_S16384_d1 (ix1 b) with hl
  set a : EReal × BitVec 32 := (constant (F := Ideal) S_ .f32 0xFF800000#32 (Shape.Idx.first h_S_), constantI S_ 32 0#32 (Shape.Idx.first h_S_)) with ha
  have ha' : a = (⊥, 0#32) := Prod.ext bot_bits rfl
  obtain ⟨h1, h2, h3⟩ := foldl_picks l a
  have key : ∃ p : Fin 64, l.foldl (reducer_argmax_f32_i32 (F := Ideal)) a = (x (ix2 b p), BitVec.ofNat 32 p.val) := by
    rcases h1 with h1 | h1
    · have := h3 (x (ix2 b 0), BitVec.ofNat 32 0) ((mem_row _ _ b _).2 ⟨0, rfl⟩)
      rw [h1, ha'] at this
      refine ⟨0, h1.trans (ha'.trans ?_)⟩
      rcases this with h | ⟨h, _⟩
      · exact absurd h not_lt_bot
      · exact Prod.ext h.symm rfl
    · obtain ⟨k, hk⟩ := (mem_row _ _ b _).1 h1
      exact ⟨k, hk⟩
  obtain ⟨p, hp⟩ := key
  refine ⟨p, congrArg Prod.snd hp, fun q => ?_⟩
  have := h3 (x (ix2 b q), BitVec.ofNat 32 q.val) ((mem_row _ _ b _).2 ⟨q, rfl⟩)
  rw [hp] at this
  rcases this with h | ⟨h, h'⟩
  · exact Or.inl h
  · refine Or.inr ⟨h, ?_⟩
    simp only [hi] at h'
    exact Fin.le_def.2 (by omega)

/-! ## The scatters -/

/-- Every row's index words name the row and its slot. -/
structure Names (idx : IVec S16384x2 32) (p : Fin 16384 → Fin 64) : Prop where
  row : ∀ b, (idx (ix2 b 0)).toInt = (b.val : Int)
  slot : ∀ b, (idx (ix2 b 1)).toInt = ((p b).val : Int)

theorem lands_row (idx : IVec S16384x2 32) (p : Fin 16384 → Fin 64) (h : Names idx p) (a b : Fin 16384) (e n d : Fin 64) :
    scatter_S16384x64x64_S16384x2_S16384x64_1_01_01_1.resultIdx? (ix2 a e) idx = some (ix3 b n d) ↔ a = b ∧ e = d ∧ n = p b := by
  have w0 : scatter_S16384x64x64_S16384x2_S16384x64_1_01_01_1.window (ix2 a e) 0 = 0 := rfl
  have w1 : scatter_S16384x64x64_S16384x2_S16384x64_1_01_01_1.window (ix2 a e) 1 = 0 := rfl
  have w2 : scatter_S16384x64x64_S16384x2_S16384x64_1_01_01_1.window (ix2 a e) 2 = e.val := rfl
  have s0 : scatter_S16384x64x64_S16384x2_S16384x64_1_01_01_1.start (ix2 a e) idx 0 = (a.val : Int) := by
    rw [← h.row a]
    unfold ScatterDims.start
    rw [dif_pos (by decide)]
    refine congrArg (fun i => (idx i).toInt) (funext fun q => ?_)
    match q with
    | ⟨0, _⟩ => rfl
    | ⟨1, _⟩ => rfl
  have s1 : scatter_S16384x64x64_S16384x2_S16384x64_1_01_01_1.start (ix2 a e) idx 1 = ((p a).val : Int) := by
    rw [← h.slot a]
    unfold ScatterDims.start
    rw [dif_pos (by decide)]
    refine congrArg (fun i => (idx i).toInt) (funext fun q => ?_)
    match q with
    | ⟨0, _⟩ => rfl
    | ⟨1, _⟩ => rfl
  have s2 : scatter_S16384x64x64_S16384x2_S16384x64_1_01_01_1.start (ix2 a e) idx 2 = 0 := rfl
  rw [Routing.resultIdx?_eq_some]
  constructor
  · intro g
    have g0 := g 0
    have g1 := g 1
    have g2 := g 2
    rw [s0, w0] at g0
    rw [s1, w1] at g1
    rw [s2, w2] at g2
    have e0 : a = b := Fin.ext (by
      have : (((ix3 b n d : S16384x64x64.Idx) 0).val : Int) = b.val := rfl
      omega)
    subst e0
    refine ⟨rfl, Fin.ext ?_, Fin.ext ?_⟩
    · have : (((ix3 a n d : S16384x64x64.Idx) 2).val : Int) = d.val := rfl
      omega
    · have : (((ix3 a n d : S16384x64x64.Idx) 1).val : Int) = n.val := rfl
      omega
  · rintro ⟨rfl, rfl, rfl⟩ q
    match q with
    | ⟨0, _⟩ => exact (congrArg₂ (fun (u : Int) (v : Nat) => u + (v : Int)) s0 w0).trans (by simp)
    | ⟨1, _⟩ => exact (congrArg₂ (fun (u : Int) (v : Nat) => u + (v : Int)) s1 w1).trans (by simp)
    | ⟨2, _⟩ => exact (congrArg₂ (fun (u : Int) (v : Nat) => u + (v : Int)) s2 w2).trans (by simp)

/-- The scatter of one row of 64 per batch row. -/
theorem scatter_row {α : Type} (x : S16384x64x64.Idx → α) (idx : IVec S16384x2 32) (u : S16384x64.Idx → α) (p : Fin 16384 → Fin 64)
    (h : Names idx p) (b : Fin 16384) (n d : Fin 64) :
    Host.scatter scatter_S16384x64x64_S16384x2_S16384x64_1_01_01_1 (fun _ b => b) x idx u (ix3 b n d)
      = if n = p b then u (ix2 b d) else x (ix3 b n d) := by
  have hk : ∀ k : S16384x64.Idx, k = ix2 (k 0) (k 1) := fun k => by idx_vars k; rfl
  have hl : ∀ k : S16384x64.Idx, scatter_S16384x64x64_S16384x2_S16384x64_1_01_01_1.resultIdx? k idx = some (ix3 b n d) →
      k = ix2 b d ∧ n = p b := fun k g => by
    rw [hk k] at g ⊢
    obtain ⟨g0, g1, g2⟩ := (lands_row idx p h _ b _ n d).1 g
    rw [g0, g1]
    exact ⟨rfl, g2⟩
  by_cases hn : n = p b
  · rw [if_pos hn]
    exact Routing.scatter_set_hit _ x idx u _ _ (fun k g => congrArg u (hl k g).1) (ix2 b d)
      ((lands_row idx p h b b d n d).2 ⟨rfl, rfl, hn⟩)
  · rw [if_neg hn]
    exact Routing.scatter_set_miss _ x idx u _ fun k g => hn (hl k g).2

theorem lands_one (idx : IVec S16384x2 32) (p : Fin 16384 → Fin 64) (h : Names idx p) (a b : Fin 16384) (n : Fin 64) :
    scatter_S16384x64_S16384x2_S16384_n_01_01_1.resultIdx? (ix1 a) idx = some (ix2 b n) ↔ a = b ∧ n = p b := by
  have w0 : scatter_S16384x64_S16384x2_S16384_n_01_01_1.window (ix1 a) 0 = 0 := rfl
  have w1 : scatter_S16384x64_S16384x2_S16384_n_01_01_1.window (ix1 a) 1 = 0 := rfl
  have s0 : scatter_S16384x64_S16384x2_S16384_n_01_01_1.start (ix1 a) idx 0 = (a.val : Int) := by
    rw [← h.row a]
    unfold ScatterDims.start
    rw [dif_pos (by decide)]
    refine congrArg (fun i => (idx i).toInt) (funext fun q => ?_)
    match q with
    | ⟨0, _⟩ => rfl
    | ⟨1, _⟩ => rfl
  have s1 : scatter_S16384x64_S16384x2_S16384_n_01_01_1.start (ix1 a) idx 1 = ((p a).val : Int) := by
    rw [← h.slot a]
    unfold ScatterDims.start
    rw [dif_pos (by decide)]
    refine congrArg (fun i => (idx i).toInt) (funext fun q => ?_)
    match q with
    | ⟨0, _⟩ => rfl
    | ⟨1, _⟩ => rfl
  rw [Routing.resultIdx?_eq_some]
  constructor
  · intro g
    have g0 := g 0
    have g1 := g 1
    rw [s0, w0] at g0
    rw [s1, w1] at g1
    have e0 : a = b := Fin.ext (by
      have : (((ix2 b n : S16384x64.Idx) 0).val : Int) = b.val := rfl
      omega)
    subst e0
    refine ⟨rfl, Fin.ext ?_⟩
    have : (((ix2 a n : S16384x64.Idx) 1).val : Int) = n.val := rfl
    omega
  · rintro ⟨rfl, rfl⟩ q
    match q with
    | ⟨0, _⟩ => exact (congrArg₂ (fun (u : Int) (v : Nat) => u + (v : Int)) s0 w0).trans (by simp)
    | ⟨1, _⟩ => exact (congrArg₂ (fun (u : Int) (v : Nat) => u + (v : Int)) s1 w1).trans (by simp)

/-- The scatter of one scalar per batch row. -/
theorem scatter_one {α : Type} (x : S16384x64.Idx → α) (idx : IVec S16384x2 32) (u : S16384.Idx → α) (p : Fin 16384 → Fin 64)
    (h : Names idx p) (b : Fin 16384) (n : Fin 64) :
    Host.scatter scatter_S16384x64_S16384x2_S16384_n_01_01_1 (fun _ b => b) x idx u (ix2 b n)
      = if n = p b then u (ix1 b) else x (ix2 b n) := by
  have hk : ∀ k : S16384.Idx, k = ix1 (k 0) := fun k => by idx_vars k; rfl
  have hl : ∀ k : S16384.Idx, scatter_S16384x64_S16384x2_S16384_n_01_01_1.resultIdx? k idx = some (ix2 b n) →
      k = ix1 b ∧ n = p b := fun k g => by
    rw [hk k] at g ⊢
    obtain ⟨g0, g1⟩ := (lands_one idx p h _ b n).1 g
    rw [g0]
    exact ⟨rfl, g1⟩
  by_cases hn : n = p b
  · rw [if_pos hn]
    exact Routing.scatter_set_hit _ x idx u _ _ (fun k g => congrArg u (hl k g).1) (ix1 b) ((lands_one idx p h b b n).2 ⟨rfl, hn⟩)
  · rw [if_neg hn]
    exact Routing.scatter_set_miss _ x idx u _ fun k g => hn (hl k g).2

end Cert.Proof.Ref

end
-- ==== Proof.Spec.lean ====
/- What both programs compute, row by row, as functions of the argument arrays. -/
module

public import proofs.«01_k».proof.KernelIdeal
public import proofs.«01_k».proof.Proof.Math
public import Idealize.ShloMosaic.Lib.Pointwise

@[expose] public section

set_option maxRecDepth 16384

noncomputable section

namespace Cert.Proof

open Idealize.ShloMosaic Cert.KernelIdeal

/-- The arguments the results depend on. -/
@[ext] structure Ins where
  x : Vec Ideal S16384x64 .f32
  s : Vec Ideal S16384x64x64 .f32
  u : Vec Ideal S16384x64x64 .f32
  d : Vec Ideal S16384x64 .f32
  f : Vec Ideal S16384x64 .i1
  wq : Vec Ideal S64x64 .f32
  wk : Vec Ideal S64x64 .f32
  wv : Vec Ideal S64x64 .f32
  bv : Vec Ideal S64 .f32
  wi : Vec Ideal S256x129 .f32
  wh : Vec Ideal S256x64 .f32
  bi : Vec Ideal S256 .f32
  bh : Vec Ideal S256 .f32

namespace Ins

variable (I : Ins)

/-- The recurrence's weights. -/
def W : Wts := ⟨fun n k => I.wi (ix2 n k), fun n k => I.wh (ix2 n k), fun n => I.bi (ix1 n), fun n => I.bh (ix1 n)⟩

/-- Slot `k` of row `b` is empty. -/
def empty (b : Fin 16384) (k : Fin 64) : Prop := I.f (ix2 b k) = 0#1

/-- The score of slot `n` of row `b`. -/
def score (b : Fin 16384) (n : Fin 64) : EReal :=
  ∑ d : Fin 64, I.s (ix3 b n d) * ∑ h : Fin 64, I.wk (ix2 h d) * ∑ e : Fin 64, I.wq (ix2 h e) * I.x (ix2 b e)

/-- The slot row `b` writes. -/
def slot (b : Fin 16384) : Fin 64 := pick (I.empty b) (I.score b)

/-- The new slots. -/
def slotsAt (b : Fin 16384) (n d : Fin 64) : EReal :=
  if n = I.slot b then (∑ e : Fin 64, I.wv (ix2 d e) * I.x (ix2 b e)) + I.bv (ix1 d) else I.s (ix3 b n d)

/-- The new cumulated features. -/
def cumAt (b : Fin 16384) (n d : Fin 64) : EReal :=
  if n = I.slot b then I.x (ix2 b d) else I.u (ix3 b n d) + I.x (ix2 b d)

/-- The new times. -/
def timeAt (b : Fin 16384) (n : Fin 64) : EReal := if n = I.slot b then 0 else I.d (ix2 b n) + 1

/-- The new filled marks. -/
def filledAt (b : Fin 16384) (n : Fin 64) : BitVec 1 := if n = I.slot b then 1#1 else I.f (ix2 b n)

/-- The last hidden state. -/
def hidAt (b : Fin 16384) (j : Fin 64) : EReal := (I.W.run (I.slotsAt b) (I.cumAt b) (I.timeAt b) 64).1 j

/-- The five results as arrays. -/
def hidA : Vec Ideal S16384x64 .f32 := fun i => I.hidAt (i 0) (i 1)
def slotsA : Vec Ideal S16384x64x64 .f32 := fun i => I.slotsAt (i 0) (i 1) (i 2)
def cumA : Vec Ideal S16384x64x64 .f32 := fun i => I.cumAt (i 0) (i 1) (i 2)
def timeA : Vec Ideal S16384x64 .f32 := fun i => I.timeAt (i 0) (i 1)
def filledA : Vec Ideal S16384x64 .i1 := fun i => I.filledAt (i 0) (i 1)

end Ins

end Cert.Proof
-- ==== Proof.RefEntry.lean ====
/- The reference's host operations before its loop, read at an index. -/
module

public import proofs.«01_k».proof.Proof.RefRun
public import proofs.«01_k».proof.Proof.RefPick
public import proofs.«01_k».proof.Proof.Spec
public import Idealize.ShloMosaic.Lib.Pointwise
public import Idealize.ShloMosaic.Lib.StableHlo.ReadAt

@[expose] public section

set_option maxRecDepth 16384

noncomputable section

namespace Cert.Proof.Ref

open Idealize.ShloMosaic Idealize.ShloMosaic.TcCoe Idealize.SL.Sem
open Idealize.ShloMosaic.StableHlo
open Cert.ReferenceIdeal Cert.ReferenceIdeal.Gen Cert.ReferenceIdeal.Value

/-- The arguments as one device's buffers hold them. -/
def insV (V : Valuation τ sig (Elt Ideal)) : Ins where
  x := V (Proc.devRef .tc main_arg0)
  s := V (Proc.devRef .tc main_arg2)
  u := V (Proc.devRef .tc main_arg3)
  d := V (Proc.devRef .tc main_arg4)
  f := V (Proc.devRef .tc main_arg5)
  wq := V (Proc.devRef .tc main_arg6)
  wk := V (Proc.devRef .tc main_arg7)
  wv := V (Proc.devRef .tc main_arg8)
  bv := V (Proc.devRef .tc main_arg9)
  wi := V (Proc.devRef .tc main_arg10)
  wh := V (Proc.devRef .tc main_arg11)
  bi := V (Proc.devRef .tc main_arg12)
  bh := V (Proc.devRef .tc main_arg13)

variable (V : Valuation τ sig (Elt Ideal))

/-! ## The first stretch -/

theorem time1 (b : Fin 16384) (n : Fin 64) :
    (after hostOps0 V (Proc.devRef .tc main_v1) : (⟨S16384x64, .f32⟩ : BufTy).Contents (Elt Ideal)) (ix2 b n)
      = (insV V).d (ix2 b n) + 1 := by
  after_reads_at
  rfl

theorem cum1 (b : Fin 16384) (n d : Fin 64) :
    (after hostOps0 V (Proc.devRef .tc main_v4) : (⟨S16384x64x64, .f32⟩ : BufTy).Contents (Elt Ideal)) (ix3 b n d)
      = (insV V).u (ix3 b n d) + (insV V).x (ix2 b d) := by
  after_reads_at
  rfl

theorem score1 (b : Fin 16384) (n : Fin 64) :
    (after hostOps0 V (Proc.devRef .tc main_v9) : (⟨S16384x64, .f32⟩ : BufTy).Contents (Elt Ideal)) (ix2 b n)
      = ∑ h : Fin 64, (∑ d : Fin 64, (insV V).s (ix3 b n d) * (insV V).wk (ix2 h d)) * ∑ e : Fin 64, (insV V).x (ix2 b e) * (insV V).wq (ix2 h e) := by
  after_reads_at
  rfl

theorem value1 (b : Fin 16384) (d : Fin 64) :
    (after hostOps0 V (Proc.devRef .tc main_v14) : (⟨S16384x64, .f32⟩ : BufTy).Contents (Elt Ideal)) (ix2 b d)
      = (∑ e : Fin 64, (insV V).wv (ix2 d e) * (insV V).x (ix2 b e)) + (insV V).bv (ix1 d) := by
  after_reads_at
  refine congrArg (fun y : EReal => y + (insV V).bv (ix1 d)) (Finset.sum_congr rfl fun e _ => ?_)
  exact mul_comm (G := EReal) _ _

theorem any1 (b : Fin 16384) :
    (after hostOps0 V (Proc.devRef .tc main_v16) : (⟨S16384, .i1⟩ : BufTy).Contents (Elt Ideal)) (ix1 b) = 1#1
      ↔ ∃ k, (insV V).empty b k := by
  after_reads_at
  rw [Routing.fold_ori]
  have hf : ∀ w : BitVec 1, ~~~w = 1#1 ↔ w = 0#1 := by decide
  constructor
  · rintro ⟨k, _, hk⟩
    exact ⟨k, (hf _).1 hk⟩
  · rintro ⟨k, hk⟩
    exact ⟨k, Finset.mem_univ _, (hf _).2 hk⟩

/-- One for an empty slot, zero for a filled one. -/
theorem free1 (b : Fin 16384) (n : Fin 64) :
    (after hostOps0 V (Proc.devRef .tc main_v18) : (⟨S16384x64, .f32⟩ : BufTy).Contents (Elt Ideal)) (ix2 b n)
      = (((~~~((insV V).f (ix2 b n) : BitVec 1)).toNat : ℝ) : EReal) := by
  after_reads_at
  rfl

/-! ## The slot -/

/-- One device's buffers when the slot is known. -/
def V4 : Valuation τ sig (Elt Ideal) := after hostOps0_3 (after hostOps0_2 (after hostOps0_1 (after hostOps0 V)))

theorem first2 (b : Fin 16384) :
    (after hostOps0_1 V (Proc.devRef .tc main_v19) : (⟨S16384, .i32⟩ : BufTy).Contents (Elt Ideal)) (ix1 b)
      = (Host.argReduce (F := Ideal) (φ := .f32) reducer_argmax_f32_i32 (V (Proc.devRef .tc main_v18) : FVec Ideal S16384x64 .f32) (iotaInDim S16384x64 32 1) (constant S_ .f32 0xFF800000#32)
        (constantI S_ 32 0#32) reducesTo_S16384x64_S16384_d1 h_S_ (ix1 b)).2 := by
  after_reads_at
  try rfl

theorem best2 (b : Fin 16384) :
    (after hostOps0_2 V (Proc.devRef .tc main_v20) : (⟨S16384, .i32⟩ : BufTy).Contents (Elt Ideal)) (ix1 b)
      = (Host.argReduce (F := Ideal) (φ := .f32) reducer_argmax_f32_i32 (V (Proc.devRef .tc main_v9) : FVec Ideal S16384x64 .f32) (iotaInDim S16384x64 32 1) (constant S_ .f32 0xFF800000#32)
        (constantI S_ 32 0#32) reducesTo_S16384x64_S16384_d1 h_S_ (ix1 b)).2 := by
  after_reads_at
  try rfl

theorem which3 (b : Fin 16384) :
    (after hostOps0_3 V (Proc.devRef .tc main_v21) : (⟨S16384, .i32⟩ : BufTy).Contents (Elt Ideal)) (ix1 b)
      = Scalar.select (V (Proc.devRef .tc main_v16) (ix1 b)) (V (Proc.devRef .tc main_v19) (ix1 b)) (V (Proc.devRef .tc main_v20) (ix1 b)) := by
  after_reads_at

/-- What the first stretch alone writes, at the slot's choice. -/
theorem V4_first (b : Ref sig .tc) (h1 : b ∉ hostOps0_1_W) (h2 : b ∉ hostOps0_2_W) (h3 : b ∉ hostOps0_3_W) :
    V4 V (Proc.devRef .tc b) = after hostOps0 V (Proc.devRef .tc b) := by
  unfold V4
  rw [after_of_writes_sub hostOps0_3 _ hostOps0_3_writes h3, after_of_writes_sub hostOps0_2 _ hostOps0_2_writes h2,
    after_of_writes_sub hostOps0_1 _ hostOps0_1_writes h1]

/-- What nothing up to there writes. -/
theorem V4_keep (b : Ref sig .tc) (h0 : b ∉ hostOps0_W) (h1 : b ∉ hostOps0_1_W) (h2 : b ∉ hostOps0_2_W) (h3 : b ∉ hostOps0_3_W) :
    V4 V (Proc.devRef .tc b) = V (Proc.devRef .tc b) := by
  rw [V4_first V b h1 h2 h3, after_of_writes_sub hostOps0 _ hostOps0_writes h0]

/-- The score of the reference's order of the two projections. -/
def scoreR (I : Ins) (b : Fin 16384) (n : Fin 64) : EReal :=
  ∑ h : Fin 64, (∑ d : Fin 64, I.s (ix3 b n d) * I.wk (ix2 h d)) * ∑ e : Fin 64, I.x (ix2 b e) * I.wq (ix2 h e)

/-- Selecting between the two argmaxes gives the row's slot. -/
theorem pick_row (I : Ins) (X S : FVec Ideal S16384x64 .f32) (b : Fin 16384) (w : BitVec 1)
    (hX : ∀ q, X (ix2 b q) = if I.f (ix2 b q) = 0#1 then (1 : EReal) else 0) (hS : ∀ q, S (ix2 b q) = scoreR I b q)
    (hw : w = 1#1 ↔ ∃ k, I.empty b k) :
    Scalar.select w
        (Host.argReduce reducer_argmax_f32_i32 X (iotaInDim S16384x64 32 1) (constant S_ .f32 0xFF800000#32)
          (constantI S_ 32 0#32) reducesTo_S16384x64_S16384_d1 h_S_ (ix1 b)).2
        (Host.argReduce reducer_argmax_f32_i32 S (iotaInDim S16384x64 32 1) (constant S_ .f32 0xFF800000#32)
          (constantI S_ 32 0#32) reducesTo_S16384x64_S16384_d1 h_S_ (ix1 b)).2
      = BitVec.ofNat 32 (pick (I.empty b) (scoreR I b)).val := by
  by_cases hany : ∃ k, I.empty b k
  · obtain ⟨p, hp, hq⟩ := argmax_row X b
    rw [hw.2 hany, hp]
    refine congrArg (fun q : Fin 64 => BitVec.ofNat 32 q.val) (pick_eq (Or.inl ⟨?_, ?_⟩)).symm
    · obtain ⟨k, hk⟩ := hany
      by_contra hn
      have := hq k
      rw [hX, hX, if_pos (show I.f (ix2 b k) = 0#1 from hk), if_neg (show ¬ I.f (ix2 b p) = 0#1 from hn)] at this
      rcases this with h | ⟨h, _⟩
      · exact absurd h (by simp)
      · exact absurd h (by simp)
    · intro q hlt he
      have := hq q
      rw [hX, hX, if_pos (show I.f (ix2 b q) = 0#1 from he)] at this
      rcases this with h | ⟨_, h⟩
      · split_ifs at h
        · exact absurd h (lt_irrefl _)
        · exact absurd h (by simp)
      · exact absurd hlt (not_lt.2 h)
  · obtain ⟨p, hp, hq⟩ := argmax_row S b
    rw [(BitVec.eq_zero_or_eq_one w).resolve_right fun h => hany (hw.1 h), hp]
    refine congrArg (fun q : Fin 64 => BitVec.ofNat 32 q.val) (pick_eq (Or.inr ⟨fun q h => hany ⟨q, h⟩, fun q => ?_, fun q hlt => ?_⟩)).symm
    · rw [← hS, ← hS]
      rcases hq q with h | ⟨h, _⟩
      · exact le_of_lt h
      · exact le_of_eq h
    · rw [← hS, ← hS]
      rcases hq q with h | ⟨_, h⟩
      · exact h
      · exact absurd hlt (not_lt.2 h)

theorem sel3 {w w' : BitVec 1} {a a' b b' : BitVec 32} (hw : w = w') (ha : a = a') (hb : b = b') :
    Scalar.select w a b = Scalar.select w' a' b' := by rw [hw, ha, hb]

theorem slot4 (b : Fin 16384) :
    (V4 V (Proc.devRef .tc main_v21) : (⟨S16384, .i32⟩ : BufTy).Contents (Elt Ideal)) (ix1 b)
      = BitVec.ofNat 32 (pick ((insV V).empty b) (scoreR (insV V) b)).val := by
  have h16 : after hostOps0_2 (after hostOps0_1 (after hostOps0 V)) (Proc.devRef .tc main_v16) = after hostOps0 V (Proc.devRef .tc main_v16) := by
    rw [after_of_writes_sub hostOps0_2 _ hostOps0_2_writes (by decide : main_v16 ∉ hostOps0_2_W),
      after_of_writes_sub hostOps0_1 _ hostOps0_1_writes (by decide : main_v16 ∉ hostOps0_1_W)]
  have h19 : after hostOps0_2 (after hostOps0_1 (after hostOps0 V)) (Proc.devRef .tc main_v19)
      = after hostOps0_1 (after hostOps0 V) (Proc.devRef .tc main_v19) := by
    rw [after_of_writes_sub hostOps0_2 _ hostOps0_2_writes (by decide : main_v19 ∉ hostOps0_2_W)]
  have h9 : after hostOps0_1 (after hostOps0 V) (Proc.devRef .tc main_v9) = after hostOps0 V (Proc.devRef .tc main_v9) := by
    rw [after_of_writes_sub hostOps0_1 _ hostOps0_1_writes (by decide : main_v9 ∉ hostOps0_1_W)]
  have hf : ∀ q, (after hostOps0 V (Proc.devRef .tc main_v18) : FVec Ideal S16384x64 .f32) (ix2 b q)
      = if (insV V).f (ix2 b q) = 0#1 then (1 : EReal) else 0 := fun q => by
    refine (free1 V b q).trans ?_
    have hw : ∀ w : BitVec 1, (((~~~w).toNat : ℝ) : EReal) = if w = 0#1 then 1 else 0 := fun w => by
      rcases BitVec.eq_zero_or_eq_one w with h | h <;> subst h <;> simp
    exact hw _
  have hs : ∀ q, (after hostOps0_1 (after hostOps0 V) (Proc.devRef .tc main_v9) : FVec Ideal S16384x64 .f32) (ix2 b q) = scoreR (insV V) b q :=
    fun q => (congrFun h9 (ix2 b q)).trans (score1 V b q)
  have key := pick_row (insV V) _ _ b _ hf hs (any1 V b)
  refine Eq.trans (which3 (after hostOps0_2 (after hostOps0_1 (after hostOps0 V))) b) (Eq.trans ?_ key)
  have e1 := congrFun h16 (ix1 b)
  have e2 := (congrFun h19 (ix1 b)).trans (first2 (after hostOps0 V) b)
  have e3 := best2 (after hostOps0_1 (after hostOps0 V)) b
  exact sel3 e1 e2 e3

/-! ## The scatters -/

theorem word_row (b : Fin 16384) (a : BitVec 32) :
    (Scalar.select (IntOp.cmpi CmpIPredicate.slt (BitVec.ofNat 32 b.val) 0#32) a (BitVec.ofNat 32 b.val)).toInt = (b.val : Int) := by
  rw [Routing.wrap_of_lt _ _ (by rw [BitVec.toNat_ofNat]; omega), StableHlo.Predicate.toInt_ofNat_small _ (by omega)]

section

variable (p : Fin 16384 → Fin 64) (hp : ∀ b, (V (Proc.devRef .tc main_v21) : (⟨S16384, .i32⟩ : BufTy).Contents (Elt Ideal)) (ix1 b) = BitVec.ofNat 32 (p b).val)
include hp

theorem word_slot (b : Fin 16384) (a : BitVec 32) :
    (Scalar.select (IntOp.cmpi CmpIPredicate.slt (V (Proc.devRef .tc main_v21) (ix1 b) : BitVec 32) 0#32) a (V (Proc.devRef .tc main_v21) (ix1 b) : BitVec 32)).toInt
      = ((p b).val : Int) := by
  have h : (V (Proc.devRef .tc main_v21) (ix1 b) : BitVec 32) = BitVec.ofNat 32 (p b).val := hp b
  rw [h, Routing.wrap_of_lt _ _ (by rw [BitVec.toNat_ofNat]; omega), StableHlo.Predicate.toInt_ofNat_small _ (by omega)]

theorem slots5 (b : Fin 16384) (n d : Fin 64) :
    (after hostOps0_4 V (Proc.devRef .tc main_v36) : (⟨S16384x64x64, .f32⟩ : BufTy).Contents (Elt Ideal)) (ix3 b n d)
      = if n = p b then V (Proc.devRef .tc main_v14) (ix2 b d) else V (Proc.devRef .tc main_arg2) (ix3 b n d) := by
  after_reads_at
  refine scatter_row _ _ _ p ⟨fun b => ?_, fun b => ?_⟩ b n d <;> after_reads_at
  · exact word_row b _
  · exact word_slot V p hp b _

theorem cum5 (b : Fin 16384) (n d : Fin 64) :
    (after hostOps0_4 V (Proc.devRef .tc main_v50) : (⟨S16384x64x64, .f32⟩ : BufTy).Contents (Elt Ideal)) (ix3 b n d)
      = if n = p b then V (Proc.devRef .tc main_arg0) (ix2 b d) else V (Proc.devRef .tc main_v4) (ix3 b n d) := by
  after_reads_at
  refine scatter_row _ _ _ p ⟨fun b => ?_, fun b => ?_⟩ b n d <;> after_reads_at
  · exact word_row b _
  · exact word_slot V p hp b _

theorem time5 (b : Fin 16384) (n : Fin 64) :
    (after hostOps0_4 V (Proc.devRef .tc main_v65) : (⟨S16384x64, .f32⟩ : BufTy).Contents (Elt Ideal)) (ix2 b n)
      = if n = p b then (0 : EReal) else V (Proc.devRef .tc main_v1) (ix2 b n) := by
  after_reads_at
  refine (scatter_one _ _ _ p ⟨fun b => ?_, fun b => ?_⟩ b n).trans ?_
  · after_reads_at
    exact word_row b _
  · after_reads_at
    exact word_slot V p hp b _
  · pointwise

theorem filled5 (b : Fin 16384) (n : Fin 64) :
    (after hostOps0_4 V (Proc.devRef .tc main_v80) : (⟨S16384x64, .i1⟩ : BufTy).Contents (Elt Ideal)) (ix2 b n)
      = if n = p b then 1#1 else V (Proc.devRef .tc main_arg5) (ix2 b n) := by
  after_reads_at
  refine (scatter_one _ _ _ p ⟨fun b => ?_, fun b => ?_⟩ b n).trans ?_
  · after_reads_at
    exact word_row b _
  · after_reads_at
    exact word_slot V p hp b _
  · pointwise

/-- The sequence the recurrence runs over: slots, cumulated features, time. -/
theorem seqS5 (k : Fin 64) (b : Fin 16384) (e : Fin 64) :
    (after hostOps0_4 V (Proc.devRef .tc main_v86_0) : (⟨S64x16384x129, .f32⟩ : BufTy).Contents (Elt Ideal)) (ix3 k b ⟨e.val, by omega⟩)
      = if k = p b then V (Proc.devRef .tc main_v14) (ix2 b e) else V (Proc.devRef .tc main_arg2) (ix3 b k e) := by
  after_reads_simp
  simp only [id_eq]
  pointwise
  after_reads_at
  refine scatter_row _ _ _ p ⟨fun b => ?_, fun b => ?_⟩ b k e <;> after_reads_at
  · exact word_row b _
  · exact word_slot V p hp b _

theorem seqU5 (k : Fin 64) (b : Fin 16384) (e : Fin 64) :
    (after hostOps0_4 V (Proc.devRef .tc main_v86_0) : (⟨S64x16384x129, .f32⟩ : BufTy).Contents (Elt Ideal)) (ix3 k b ⟨64 + e.val, by omega⟩)
      = if k = p b then V (Proc.devRef .tc main_arg0) (ix2 b e) else V (Proc.devRef .tc main_v4) (ix3 b k e) := by
  after_reads_simp
  simp only [id_eq]
  pointwise
  after_reads_at
  refine scatter_row _ _ _ p ⟨fun b => ?_, fun b => ?_⟩ b k e <;> after_reads_at
  · exact word_row b _
  · exact word_slot V p hp b _

theorem seqT5 (k : Fin 64) (b : Fin 16384) :
    (after hostOps0_4 V (Proc.devRef .tc main_v86_0) : (⟨S64x16384x129, .f32⟩ : BufTy).Contents (Elt Ideal)) (ix3 k b ⟨128, by omega⟩)
      = if k = p b then (0 : EReal) else V (Proc.devRef .tc main_v1) (ix2 b k) := by
  after_reads_simp
  simp only [id_eq]
  pointwise
  after_reads_at
  refine (scatter_one _ _ _ p ⟨fun b => ?_, fun b => ?_⟩ b k).trans ?_
  · after_reads_at
    exact word_row b _
  · after_reads_at
    exact word_slot V p hp b _
  · pointwise

end

/-! ## What else the loop carries -/

theorem wi5 : after hostOps0_4 V (Proc.devRef .tc main_v86_1) = V (Proc.devRef .tc main_arg10) := by
  after_reads_simp
  rfl

theorem wh5 : after hostOps0_4 V (Proc.devRef .tc main_v86_2) = V (Proc.devRef .tc main_arg11) := by
  after_reads_simp
  rfl

theorem bi5 : after hostOps0_4 V (Proc.devRef .tc main_v86_3) = V (Proc.devRef .tc main_arg12) := by
  after_reads_simp
  rfl

theorem bh5 : after hostOps0_4 V (Proc.devRef .tc main_v86_4) = V (Proc.devRef .tc main_arg13) := by
  after_reads_simp
  rfl

theorem hid5 (b : Fin 16384) (j : Fin 64) :
    (after hostOps0_4 V (Proc.devRef .tc main_v86_6) : FVec Ideal S16384x64 .f32) (ix2 b j) = (0 : EReal) := by
  after_reads_simp
  simp only [id_eq]
  pointwise

theorem cell5 (b : Fin 16384) (j : Fin 64) :
    (after hostOps0_4 V (Proc.devRef .tc main_v86_7) : FVec Ideal S16384x64 .f32) (ix2 b j) = (0 : EReal) := by
  after_reads_simp
  simp only [id_eq]
  pointwise

end Cert.Proof.Ref

end
-- ==== Proof.RefLoop.lean ====
/- The reference's loop: after `k` trips it carries what the recurrence holds after `k` slots. -/
module

public import proofs.«01_k».proof.Proof.RefEntry
public import Idealize.ShloMosaic.Lib.DynamicIndex

@[expose] public section

set_option maxRecDepth 16384

noncomputable section

namespace Cert.Proof.Ref

open Idealize.ShloMosaic Idealize.ShloMosaic.TcCoe Idealize.SL.Sem
open Idealize.ShloMosaic.StableHlo
open Cert.ReferenceIdeal Cert.ReferenceIdeal.Gen Cert.ReferenceIdeal.Value

/-- The slab a trip reads. -/
theorem slice_at (X : FVec Ideal S64x16384x129 .f32) (w : IVec S_ 32) (k : Fin 64) (hw : w = fun _ => BitVec.ofNat 32 k.val)
    (b : Fin 16384) (e : Fin 129) :
    shapeCast S16384x129 (Host.dynamicSlice S1x16384x129 X
      (fun a => (((![w, constantI S_ 32 0#32, constantI S_ 32 0#32] : Fin 3 → (⟨S_, .i32⟩ : BufTy).Contents (Elt Ideal))) a (Shape.Idx.first h_S_)).toInt)
      sliceFits_S64x16384x129_S1x16384x129) shapeCasts_S1x16384x129_S16384x129 (ix2 b e) = X (ix3 k b e) := by
  rw [Host.dynamicSlice_eq_extractStridedSlice S1x16384x129 X _ ![k.val, 0, 0] _
    ⟨rfl, fun a => by fin_cases a <;> simp [S1x16384x129, S64x16384x129, Shape.size] <;> omega⟩ (fun a => by
      subst hw
      fin_cases a
      · exact toInt_ofNat_of_lt (by have := k.isLt; omega)
      · rfl
      · rfl)]
  pointwise

variable (V : Valuation τ sig (Elt Ideal)) (k : Fin 64)
  (hk : (V (Proc.devRef .tc main_v86_5) : IVec S_ 32) = fun _ => BitVec.ofNat 32 k.val)
  (W : Wts) (s u : Fin 16384 → Fin 64 → EReal) (t : Fin 16384 → EReal) (h c : Fin 16384 → Fin 64 → EReal)
  (hs : ∀ (b : Fin 16384) (e : Fin 64), (V (Proc.devRef .tc main_v86_0) : FVec Ideal S64x16384x129 .f32) (ix3 k b ⟨e.val, by omega⟩) = s b e)
  (hu : ∀ (b : Fin 16384) (e : Fin 64), (V (Proc.devRef .tc main_v86_0) : FVec Ideal S64x16384x129 .f32) (ix3 k b ⟨64 + e.val, by omega⟩) = u b e)
  (ht : ∀ (b : Fin 16384), (V (Proc.devRef .tc main_v86_0) : FVec Ideal S64x16384x129 .f32) (ix3 k b ⟨128, by omega⟩) = t b)
  (hwi : ∀ (g : Fin 256) (e : Fin 129), (V (Proc.devRef .tc main_v86_1) : FVec Ideal S256x129 .f32) (ix2 g e) = W.Wi g e)
  (hwh : ∀ (g : Fin 256) (e : Fin 64), (V (Proc.devRef .tc main_v86_2) : FVec Ideal S256x64 .f32) (ix2 g e) = W.Wh g e)
  (hbi : ∀ g : Fin 256, (V (Proc.devRef .tc main_v86_3) : FVec Ideal S256 .f32) (ix1 g) = W.bi g)
  (hbh : ∀ g : Fin 256, (V (Proc.devRef .tc main_v86_4) : FVec Ideal S256 .f32) (ix1 g) = W.bh g)
  (hh : ∀ (b : Fin 16384) (e : Fin 64), (V (Proc.devRef .tc main_v86_6) : FVec Ideal S16384x64 .f32) (ix2 b e) = h b e)
  (hc : ∀ (b : Fin 16384) (e : Fin 64), (V (Proc.devRef .tc main_v86_7) : FVec Ideal S16384x64 .f32) (ix2 b e) = c b e)

/-- A sum over a memory row's 129 entries: slot, cumulated features, time. -/
theorem sum_row (f : Fin 129 → EReal) :
    ∑ e, f e = ((∑ e : Fin 64, f ⟨e.val, by omega⟩) + ∑ e : Fin 64, f ⟨64 + e.val, by omega⟩) + f ⟨128, by omega⟩ := by
  rw [Fin.sum_univ_castSucc (n := 128) f, Fin.sum_univ_add (a := 64) (b := 64) (fun e : Fin 128 => f e.castSucc)]
  rfl

include hk hs hu ht hwi hwh hbi hbh hh in
/-- The gates' arguments. -/
theorem gates_at (b : Fin 16384) (g : Fin 256) :
    (res_main_while0b_v98 V : FVec Ideal S16384x256 .f32) (ix2 b g) = W.arg (s b) (u b) (t b) (h b) g := by
  have hsl := slice_at (V (Proc.devRef .tc main_v86_0)) _ k hk b
  unfold res_main_while0b_v98
  generalize shapeCast S16384x129 (Host.dynamicSlice S1x16384x129 _ _ _) _ = X at hsl ⊢
  pointwise
  unfold Wts.arg
  rw [sum_row, ← gateArg_ref]
  simp only [hsl, hs, hu, ht, hwi, hwh, hbi, hbh, hh]

include hk hs hu ht hwi hwh hbi hbh hh hc in
/-- The cell state after a trip. -/
theorem cell_at (b : Fin 16384) (j : Fin 64) :
    (res_main_while0b_v124 V : FVec Ideal S16384x64 .f32) (ix2 b j) = W.cell (s b) (u b) (t b) (h b) (c b) j := by
  have hg := gates_at V k hk W s u t h hs hu ht hwi hwh hbi hbh hh b
  unfold res_main_while0b_v124
  generalize (res_main_while0b_v98 V : FVec Ideal S16384x256 .f32) = X at hg ⊢
  pointwise
  unfold Wts.cell sgm
  rw [hg, hg, hg, hc]

include hk hs hu ht hwi hwh hbi hbh hh hc in
/-- The hidden state after a trip. -/
theorem hid_at (b : Fin 16384) (j : Fin 64) :
    (step_main_v86_6 V : FVec Ideal S16384x64 .f32) (ix2 b j) = W.hid (s b) (u b) (t b) (h b) (c b) j := by
  have hg := gates_at V k hk W s u t h hs hu ht hwi hwh hbi hbh hh b
  have hcell := cell_at V k hk W s u t h c hs hu ht hwi hwh hbi hbh hh hc b j
  unfold step_main_v86_6
  simp only [id_eq]
  generalize (res_main_while0b_v98 V : FVec Ideal S16384x256 .f32) = X at hg ⊢
  generalize (res_main_while0b_v124 V : FVec Ideal S16384x64 .f32) = Y at hcell ⊢
  pointwise
  unfold Wts.hid sgm
  rw [hg, hcell]

/-! ## The entry -/

variable (m : (ℓ : Loc nD τ sig) → Buf (Elt Ideal) ℓ) (d : Dev nD)

/-- The arguments one device's memory holds. -/
def ins : Ins := insV (launchContents m d)

/-- Scoring by the reference's order of the products picks the same slots. -/
def SameSlot : Prop := ∀ b, pick ((ins m d).empty b) (scoreR (ins m d) b) = (ins m d).slot b

variable {m d} (hslot : SameSlot m d)
include hslot

theorem slot_word (b : Fin 16384) :
    (V4 (launchContents m d) (Proc.devRef .tc main_v21) : (⟨S16384, .i32⟩ : BufTy).Contents (Elt Ideal)) (ix1 b)
      = BitVec.ofNat 32 ((ins m d).slot b).val :=
  (slot4 _ b).trans (congrArg (fun q : Fin 64 => BitVec.ofNat 32 q.val) (hslot b))

theorem value_at (b : Fin 16384) (e : Fin 64) :
    (V4 (launchContents m d) (Proc.devRef .tc main_v14) : FVec Ideal S16384x64 .f32) (ix2 b e)
      = (∑ h : Fin 64, (ins m d).wv (ix2 e h) * (ins m d).x (ix2 b h)) + (ins m d).bv (ix1 e) :=
  (congrFun (V4_first _ main_v14 (by decide) (by decide) (by decide)) (ix2 b e)).trans (value1 _ b e)

theorem sums_at (b : Fin 16384) (n e : Fin 64) :
    (V4 (launchContents m d) (Proc.devRef .tc main_v4) : FVec Ideal S16384x64x64 .f32) (ix3 b n e)
      = (ins m d).u (ix3 b n e) + (ins m d).x (ix2 b e) :=
  (congrFun (V4_first _ main_v4 (by decide) (by decide) (by decide)) (ix3 b n e)).trans (cum1 _ b n e)

theorem later_at (b : Fin 16384) (n : Fin 64) :
    (V4 (launchContents m d) (Proc.devRef .tc main_v1) : FVec Ideal S16384x64 .f32) (ix2 b n) = (ins m d).d (ix2 b n) + 1 :=
  (congrFun (V4_first _ main_v1 (by decide) (by decide) (by decide)) (ix2 b n)).trans (time1 _ b n)

theorem x_at (b : Fin 16384) (e : Fin 64) :
    (V4 (launchContents m d) (Proc.devRef .tc main_arg0) : FVec Ideal S16384x64 .f32) (ix2 b e) = (ins m d).x (ix2 b e) :=
  congrFun (V4_keep _ main_arg0 (by decide) (by decide) (by decide) (by decide)) (ix2 b e)

theorem s_at (b : Fin 16384) (n e : Fin 64) :
    (V4 (launchContents m d) (Proc.devRef .tc main_arg2) : FVec Ideal S16384x64x64 .f32) (ix3 b n e) = (ins m d).s (ix3 b n e) :=
  congrFun (V4_keep _ main_arg2 (by decide) (by decide) (by decide) (by decide)) (ix3 b n e)

theorem f_at (b : Fin 16384) (n : Fin 64) :
    (V4 (launchContents m d) (Proc.devRef .tc main_arg5) : IVec S16384x64 1) (ix2 b n) = (ins m d).f (ix2 b n) :=
  congrFun (V4_keep _ main_arg5 (by decide) (by decide) (by decide) (by decide)) (ix2 b n)

theorem slots_entry (b : Fin 16384) (n e : Fin 64) :
    (entryContents preI m d (Proc.devRef .tc main_v36) : FVec Ideal S16384x64x64 .f32) (ix3 b n e) = (ins m d).slotsAt b n e :=
  (slots5 _ _ (slot_word hslot) b n e).trans (if_congr Iff.rfl (value_at hslot b e) (s_at hslot b n e))

theorem cum_entry (b : Fin 16384) (n e : Fin 64) :
    (entryContents preI m d (Proc.devRef .tc main_v50) : FVec Ideal S16384x64x64 .f32) (ix3 b n e) = (ins m d).cumAt b n e :=
  (cum5 _ _ (slot_word hslot) b n e).trans (if_congr Iff.rfl (x_at hslot b e) (sums_at hslot b n e))

theorem time_entry (b : Fin 16384) (n : Fin 64) :
    (entryContents preI m d (Proc.devRef .tc main_v65) : FVec Ideal S16384x64 .f32) (ix2 b n) = (ins m d).timeAt b n :=
  (time5 _ _ (slot_word hslot) b n).trans (if_congr Iff.rfl rfl (later_at hslot b n))

theorem filled_entry (b : Fin 16384) (n : Fin 64) :
    (entryContents preI m d (Proc.devRef .tc main_v80) : IVec S16384x64 1) (ix2 b n) = (ins m d).filledAt b n :=
  (filled5 _ _ (slot_word hslot) b n).trans (if_congr Iff.rfl rfl (f_at hslot b n))

theorem seqS_entry (k : Fin 64) (b : Fin 16384) (e : Fin 64) :
    (entryContents preI m d (Proc.devRef .tc main_v86_0) : FVec Ideal S64x16384x129 .f32) (ix3 k b ⟨e.val, by omega⟩)
      = (ins m d).slotsAt b k e :=
  (seqS5 _ _ (slot_word hslot) k b e).trans (if_congr Iff.rfl (value_at hslot b e) (s_at hslot b k e))

theorem seqU_entry (k : Fin 64) (b : Fin 16384) (e : Fin 64) :
    (entryContents preI m d (Proc.devRef .tc main_v86_0) : FVec Ideal S64x16384x129 .f32) (ix3 k b ⟨64 + e.val, by omega⟩)
      = (ins m d).cumAt b k e :=
  (seqU5 _ _ (slot_word hslot) k b e).trans (if_congr Iff.rfl (x_at hslot b e) (sums_at hslot b k e))

theorem seqT_entry (k : Fin 64) (b : Fin 16384) :
    (entryContents preI m d (Proc.devRef .tc main_v86_0) : FVec Ideal S64x16384x129 .f32) (ix3 k b ⟨128, by omega⟩)
      = (ins m d).timeAt b k :=
  (seqT5 _ _ (slot_word hslot) k b).trans (if_congr Iff.rfl rfl (later_at hslot b k))

omit hslot

/-! ## The loop -/

variable (m d)

/-- A carried buffer the trips leave alone. -/
theorem carried (b : Ref sig .tc) (hb : b ∈ carriedRefs)
    (hS : ∀ X : Valuation τ sig (Elt Ideal), STEP X (Proc.devRef .tc b) = X (Proc.devRef .tc b)) :
    ∀ k, atK m k d (Proc.devRef .tc b) = entryContents preI m d (Proc.devRef .tc b)
  | 0 => rfl
  | k + 1 => (trip_agree (atK m k d) b hb).trans ((hS _).trans (carried b hb hS k))

theorem counter (k : Nat) : (atK m k d (Proc.devRef .tc main_v86_5) : IVec S_ 32) = fun _ => BitVec.ofNat 32 k := by
  refine (atK_ctr m d k).trans (funext fun _ => ?_)
  show 0#32 + BitVec.ofNat 32 k * 1#32 = _
  rw [BitVec.mul_one, BitVec.zero_add]

variable {m d}
include hslot

/-- After `k` trips the loop carries the recurrence's state after `k` slots. -/
theorem loop_at : ∀ (k : Nat) (hk : k ≤ 64) (b : Fin 16384) (j : Fin 64),
    (atK m k d (Proc.devRef .tc main_v86_6) : FVec Ideal S16384x64 .f32) (ix2 b j)
        = ((ins m d).W.run ((ins m d).slotsAt b) ((ins m d).cumAt b) ((ins m d).timeAt b) k).1 j
      ∧ (atK m k d (Proc.devRef .tc main_v86_7) : FVec Ideal S16384x64 .f32) (ix2 b j)
        = ((ins m d).W.run ((ins m d).slotsAt b) ((ins m d).cumAt b) ((ins m d).timeAt b) k).2 j
  | 0, _, b, j => ⟨hid5 _ b j, cell5 _ b j⟩
  | k + 1, hk, b, j => by
    have ih := loop_at k (by omega)
    have hs := fun b e => (congrFun (carried m d main_v86_0 (by decide) STEP_main_v86_0 k) _).trans (seqS_entry hslot ⟨k, by omega⟩ b e)
    have hu := fun b e => (congrFun (carried m d main_v86_0 (by decide) STEP_main_v86_0 k) _).trans (seqU_entry hslot ⟨k, by omega⟩ b e)
    have ht := fun b => (congrFun (carried m d main_v86_0 (by decide) STEP_main_v86_0 k) _).trans (seqT_entry hslot ⟨k, by omega⟩ b)
    have hwi : ∀ (g : Fin 256) (e : Fin 129), (atK m k d (Proc.devRef .tc main_v86_1) : FVec Ideal S256x129 .f32) (ix2 g e) = (ins m d).W.Wi g e :=
      fun g e => congrFun ((carried m d main_v86_1 (by decide) STEP_main_v86_1 k).trans ((wi5 _).trans
        (V4_keep _ main_arg10 (by decide) (by decide) (by decide) (by decide)))) (ix2 g e)
    have hwh : ∀ (g : Fin 256) (e : Fin 64), (atK m k d (Proc.devRef .tc main_v86_2) : FVec Ideal S256x64 .f32) (ix2 g e) = (ins m d).W.Wh g e :=
      fun g e => congrFun ((carried m d main_v86_2 (by decide) STEP_main_v86_2 k).trans ((wh5 _).trans
        (V4_keep _ main_arg11 (by decide) (by decide) (by decide) (by decide)))) (ix2 g e)
    have hbi : ∀ g : Fin 256, (atK m k d (Proc.devRef .tc main_v86_3) : FVec Ideal S256 .f32) (ix1 g) = (ins m d).W.bi g :=
      fun g => congrFun ((carried m d main_v86_3 (by decide) STEP_main_v86_3 k).trans ((bi5 _).trans
        (V4_keep _ main_arg12 (by decide) (by decide) (by decide) (by decide)))) (ix1 g)
    have hbh : ∀ g : Fin 256, (atK m k d (Proc.devRef .tc main_v86_4) : FVec Ideal S256 .f32) (ix1 g) = (ins m d).W.bh g :=
      fun g => congrFun ((carried m d main_v86_4 (by decide) STEP_main_v86_4 k).trans ((bh5 _).trans
        (V4_keep _ main_arg13 (by decide) (by decide) (by decide) (by decide)))) (ix1 g)
    have h6 := hid_at (atK m k d) ⟨k, by omega⟩ (counter m d k) _ _ _ _ _ _ hs hu ht hwi hwh hbi hbh (fun b e => (ih b e).1) (fun b e => (ih b e).2) b j
    have h7 := cell_at (atK m k d) ⟨k, by omega⟩ (counter m d k) _ _ _ _ _ _ hs hu ht hwi hwh hbi hbh (fun b e => (ih b e).1) (fun b e => (ih b e).2) b j
    have e6 := congrFun ((trip_agree (atK m k d) main_v86_6 (by decide)).trans (STEP_main_v86_6 _)) (ix2 b j)
    have e7 := congrFun ((trip_agree (atK m k d) main_v86_7 (by decide)).trans (STEP_main_v86_7 _)) (ix2 b j)
    unfold Wts.run
    rw [dif_pos (show k < 64 by omega)]
    exact ⟨e6.trans h6, e7.trans h7⟩

/-- The five results at the program's end. -/
theorem final_hid : finalContents condOps preI bodyI postI 64 m d (Proc.devRef .tc main_v86_6) = (ins m d).hidA :=
  (cond_keeps (atK m 64 d) main_v86_6 (by decide)).trans (funext fun i => by
    idx_vars i
    exact (loop_at hslot 64 le_rfl _ _).1)

theorem final_slots : finalContents condOps preI bodyI postI 64 m d (Proc.devRef .tc main_v36) = (ins m d).slotsA :=
  (final_keep m d main_v36 (by decide) (by decide) (by decide)).trans (funext fun i => by
    idx_vars i
    exact slots_entry hslot _ _ _)

theorem final_cum : finalContents condOps preI bodyI postI 64 m d (Proc.devRef .tc main_v50) = (ins m d).cumA :=
  (final_keep m d main_v50 (by decide) (by decide) (by decide)).trans (funext fun i => by
    idx_vars i
    exact cum_entry hslot _ _ _)

theorem final_time : finalContents condOps preI bodyI postI 64 m d (Proc.devRef .tc main_v65) = (ins m d).timeA :=
  (final_keep m d main_v65 (by decide) (by decide) (by decide)).trans (funext fun i => by
    idx_vars i
    exact time_entry hslot _ _)

theorem final_filled : finalContents condOps preI bodyI postI 64 m d (Proc.devRef .tc main_v80) = (ins m d).filledA :=
  (final_keep m d main_v80 (by decide) (by decide) (by decide)).trans (funext fun i => by
    idx_vars i
    exact filled_entry hslot _ _)

end Cert.Proof.Ref

end
-- ==== Proof.Block.lean ====
/- One block of the kernel at an index: the slot it writes, the four memory arrays, and one step of the recurrence. -/
module

public import proofs.«01_k».proof.Proof.Gen.KernelIdeal.Skeleton
public import proofs.«01_k».proof.Proof.Math

@[expose] public section

set_option maxRecDepth 16384

noncomputable section

namespace Cert.Proof.Block

open Idealize.ShloMosaic Cert.KernelIdeal Cert.KernelIdeal.Gen

/-! ## The slot written -/

/-- Slot `k` of column `j` is empty: its filled mark is zero. -/
def Empty (x4 : Vec Ideal S64x256 .f32) (j : Fin 256) (k : Fin 64) : Prop := x4 (ix2 k j) = 0

/-- The score of slot `n` in column `j`. -/
def score (x0 : Vec Ideal S64x256 .f32) (x1 : Vec Ideal S64x64x256 .f32) (x5 x6 : Vec Ideal S64x64 .f32) (j : Fin 256)
    (n : Fin 64) : EReal :=
  ∑ d : Fin 64, x1 (ix3 n d j) * ∑ h : Fin 64, x6 (ix2 d h) * ∑ e : Fin 64, x5 (ix2 h e) * x0 (ix2 e j)

/-- The slot column `j` writes. -/
def slot (x0 : Vec Ideal S64x256 .f32) (x1 : Vec Ideal S64x64x256 .f32) (x4 : Vec Ideal S64x256 .f32)
    (x5 x6 : Vec Ideal S64x64 .f32) (j : Fin 256) : Fin 64 := pick (Empty x4 j) (score x0 x1 x5 x6 j)

theorem empty_word (x4 : Vec Ideal S64x256 .f32) (j : Fin 256) [DecidablePred (Empty x4 j)] :
    k0_pay14 x4 (ix2 0 j) = (Finset.univ : Finset (Fin 64)).fold IntOp.minsi 2147483647#32
      (fun k => if Empty x4 j k then BitVec.ofNat 32 k.val else 64#32) := by
  pointwise [k0_pay14, k0_pay13]
  unfold Empty
  congr 1
  funext k
  congr

theorem score_word (x0 : Vec Ideal S64x256 .f32) (x1 : Vec Ideal S64x64x256 .f32) (x5 x6 : Vec Ideal S64x64 .f32)
    (j : Fin 256) :
    k0_pay15 x0 x1 x5 x6 (ix2 0 j) = (Finset.univ : Finset (Fin 64)).fold IntOp.minsi 2147483647#32
      (fun k => if score x0 x1 x5 x6 j k = (Finset.univ : Finset (Fin 64)).fold max ⊥ (score x0 x1 x5 x6 j)
        then BitVec.ofNat 32 k.val else 64#32) := by
  pointwise [k0_pay15, k0_pay9, k0_pay10]
  rw [bot_bits]
  unfold score
  congr 1

theorem select_slt (w v : BitVec 32) :
    Scalar.select (IntOp.cmpi .slt w 64#32) w v = if BitVec.slt w 64#32 then w else v := by
  unfold Scalar.select IntOp.cmpi
  cases h : BitVec.slt w 64#32 <;> simp [h]

/-- The mask's word: 1 exactly at the slot written. -/
theorem mask (x0 : Vec Ideal S64x256 .f32) (x1 : Vec Ideal S64x64x256 .f32) (x4 : Vec Ideal S64x256 .f32)
    (x5 x6 : Vec Ideal S64x64 .f32) (n : Fin 64) (j : Fin 256) :
    IntOp.cmpi .eq (BitVec.ofNat 32 n.val)
      (Scalar.select (IntOp.cmpi .slt (k0_pay14 x4 (ix2 0 j)) 64#32) (k0_pay14 x4 (ix2 0 j)) (k0_pay15 x0 x1 x5 x6 (ix2 0 j)))
      = if n = slot x0 x1 x4 x5 x6 j then 1#1 else 0#1 := by
  classical
  rw [select_slt, score_word, pick_word (Empty x4 j) _ _ (empty_word x4 j)]
  show IntOp.cmpi .eq _ (BitVec.ofNat 32 (slot x0 x1 x4 x5 x6 j).val) = _
  by_cases h : n = slot x0 x1 x4 x5 x6 j
  · rw [if_pos h, ← h]; simp [IntOp.cmpi]
  · rw [if_neg h]
    have := mt (word_inj n (slot x0 x1 x4 x5 x6 j)).1 h
    unfold IntOp.cmpi
    dsimp only
    rw [beq_eq_false_iff_ne.2 this]
    rfl

theorem select_mask {α : Type} (p : Prop) [Decidable p] (x y : α) :
    Scalar.select (if p then 1#1 else 0#1) x y = if p then x else y := by
  unfold Scalar.select
  by_cases h : p <;> simp [h]

variable (x0 : Vec Ideal S64x256 .f32) (x1 x2 : Vec Ideal S64x64x256 .f32) (x3 x4 : Vec Ideal S64x256 .f32)
  (x5 x6 x7 : Vec Ideal S64x64 .f32) (x8 : Vec Ideal S64x1 .f32)

/-- The slot numbers down a block. -/
abbrev iotaN : IVec S64x256 32 := iota .tc S64x256 32 [0] iota_S64x256_d0_w32

theorem iotaN_apply (n : Fin 64) (j : Fin 256) : iotaN (ix2 n j) = BitVec.ofNat 32 n.val := by
  unfold iotaN
  pointwise

theorem time_apply (n : Fin 64) (j : Fin 256) :
    k0_pay18 (k0_pay12 x3) iotaN (k0_pay14 x4) (k0_pay15 x0 x1 x5 x6) (ix2 n j)
      = if n = slot x0 x1 x4 x5 x6 j then 0 else x3 (ix2 n j) + 1 := by
  pointwise [k0_pay18, k0_pay16, k0_pay12]
  rw [mask, select_mask]

theorem cum_apply (n d : Fin 64) (j : Fin 256) :
    k0_pay19 (k0_pay9 x0) (k0_pay11 x2) iotaN (k0_pay14 x4) (k0_pay15 x0 x1 x5 x6) (ix3 n d j)
      = if n = slot x0 x1 x4 x5 x6 j then x0 (ix2 d j) else x2 (ix3 n d j) + x0 (ix2 d j) := by
  pointwise [k0_pay19, k0_pay17, k0_pay16, k0_pay9, k0_pay11]
  rw [mask, select_mask]

theorem slots_apply (n d : Fin 64) (j : Fin 256) :
    k0_pay20 (k0_pay9 x0) (k0_pay10 x1) iotaN (k0_pay14 x4) (k0_pay15 x0 x1 x5 x6) x7 x8 (ix3 n d j)
      = if n = slot x0 x1 x4 x5 x6 j then (∑ e : Fin 64, x7 (ix2 d e) * x0 (ix2 e j)) + x8 (ix2 d 0) else x1 (ix3 n d j) := by
  pointwise [k0_pay20, k0_pay17, k0_pay16, k0_pay9, k0_pay10]
  rw [mask, select_mask]

theorem filled_apply (n : Fin 64) (j : Fin 256) :
    k0_pay21 (k0_pay13 x4) iotaN (k0_pay14 x4) (k0_pay15 x0 x1 x5 x6) (ix2 n j)
      = if n = slot x0 x1 x4 x5 x6 j then 1 else x4 (ix2 n j) := by
  pointwise [k0_pay21, k0_pay16, k0_pay13]
  rw [mask, select_mask]

/-! ## One step of the recurrence -/

/-- The gate rows' scale: one for the candidate rows, one half for the others. -/
def sc (n : Fin 256) : ℝ := if 128 ≤ n.val ∧ n.val < 192 then 1 else 1 / 2

theorem sc_nonneg (n : Fin 256) : 0 ≤ sc n := by unfold sc; split <;> norm_num

theorem scale_mask : ∀ n : Fin 256, IntOp.andi (IntOp.cmpi .sge (BitVec.ofNat 32 n.val) 128#32)
    (IntOp.cmpi .slt (BitVec.ofNat 32 n.val) 192#32) = if 128 ≤ n.val ∧ n.val < 192 then 1#1 else 0#1 := by
  decide +kernel

theorem scale_apply (n : Fin 256) : k0_pay22 (F := Ideal) (ix2 n 0) = (sc n : EReal) := by
  pointwise [k0_pay22]
  rw [scale_mask, select_mask, half_bits]
  unfold sc
  split
  · exact EReal.coe_one.symm
  · rfl

/-- The kernel's weight blocks hold the weights of `W`. -/
structure Agrees (v80 : Vec Ideal S256x128 .f32) (v88 : Vec Ideal S256x1 .f32) (v91 : Vec Ideal S256x64 .f32)
    (v95 : Vec Ideal S256x1 .f32) (W : Wts) : Prop where
  a12 : ∀ (n : Fin 256) (e : Fin 128), v80 (ix2 n e) = W.Wi n ⟨e.val, by omega⟩
  a3 : ∀ n : Fin 256, v88 (ix2 n 0) = W.Wi n ⟨128, by omega⟩
  wh : ∀ (n : Fin 256) (e : Fin 64), v91 (ix2 n e) = W.Wh n e
  b : ∀ n : Fin 256, v95 (ix2 n 0) = W.bi n + W.bh n

variable {v80 : Vec Ideal S256x128 .f32} {v88 : Vec Ideal S256x1 .f32} {v91 : Vec Ideal S256x64 .f32}
  {v95 : Vec Ideal S256x1 .f32} {W : Wts}

theorem gates0 (A : Agrees v80 v88 v91 v95 W) (h : FVec Ideal S64x128 .f32) (s u : Vec Ideal S1x64x256 .f32)
    (t : Vec Ideal S1x256 .f32) (n : Fin 256) (j : Fin 128) :
    k0_pay4 (k0_pay24 v80) (k0_pay25 v80) (k0_pay26 v88) (k0_pay27 v91) (k0_pay28 v95) h s u t (ix2 n j)
      = Ideal.tanh ((sc n : EReal) * W.arg (fun e => s (ix3 0 e ⟨j.val, by omega⟩)) (fun e => u (ix3 0 e ⟨j.val, by omega⟩))
          (t (ix2 0 ⟨j.val, by omega⟩)) (fun e => h (ix2 e j)) n) := by
  unfold Wts.arg
  rw [← gate_scaled _ (sc_nonneg n)]
  pointwise [k0_pay4, k0_pay1, k0_pay2, k0_pay3, k0_pay24, k0_pay25, k0_pay23, k0_pay26, k0_pay27, k0_pay28]
  simp only [scale_apply, A.a12, A.a3, A.wh, A.b]
  rfl

theorem gates1 (A : Agrees v80 v88 v91 v95 W) (h : FVec Ideal S64x128 .f32) (s u : Vec Ideal S1x64x256 .f32)
    (t : Vec Ideal S1x256 .f32) (n : Fin 256) (j : Fin 128) :
    k0_pay35 v80 v88 v91 v95 h (k0_pay1 s) (k0_pay2 u) (k0_pay3 t) (ix2 n j)
      = Ideal.tanh ((sc n : EReal) * W.arg (fun e => s (ix3 0 e ⟨128 + j.val, by omega⟩))
          (fun e => u (ix3 0 e ⟨128 + j.val, by omega⟩))
          (t (ix2 0 ⟨128 + j.val, by omega⟩)) (fun e => h (ix2 e j)) n) := by
  unfold Wts.arg
  rw [← gate_scaled _ (sc_nonneg n)]
  pointwise [k0_pay35, k0_pay1, k0_pay2, k0_pay3, k0_pay24, k0_pay25, k0_pay23, k0_pay26, k0_pay27, k0_pay28]
  simp only [scale_apply, A.a12, A.a3, A.wh, A.b]
  rfl

theorem half_gate (n : Fin 256) (hn : ¬ (128 ≤ n.val ∧ n.val < 192)) (y : EReal) :
    Ideal.ofBits .f32 0x3F000000#32 * Ideal.tanh ((sc n : EReal) * y) + Ideal.ofBits .f32 0x3F000000#32 = sgm y := by
  rw [half_bits, show sc n = 1 / 2 from if_neg hn, gate_sig]

theorem one_gate (n : Fin 256) (hn : 128 ≤ n.val ∧ n.val < 192) (y : EReal) :
    Ideal.tanh ((sc n : EReal) * y) = Ideal.tanh y := by
  rw [show sc n = 1 from if_pos hn, EReal.coe_one, one_mul]

/-- One step: both halves' hidden state, then both halves' cell state. -/
def step (v80 : Vec Ideal S256x128 .f32) (v88 : Vec Ideal S256x1 .f32) (v91 : Vec Ideal S256x64 .f32)
    (v95 : Vec Ideal S256x1 .f32) (s u : Vec Ideal S1x64x256 .f32) (t : Vec Ideal S1x256 .f32)
    (a : FVec Ideal S64x128 .f32 × FVec Ideal S64x128 .f32 × FVec Ideal S64x128 .f32 × FVec Ideal S64x128 .f32) :
    FVec Ideal S64x128 .f32 × FVec Ideal S64x128 .f32 × FVec Ideal S64x128 .f32 × FVec Ideal S64x128 .f32 :=
  (k0_pay34
      (k0_pay5 (k0_pay24 v80) (k0_pay25 v80) (k0_pay26 v88) (k0_pay27 v91) (k0_pay28 v95) a.1 s u t)
      (k0_pay6 (k0_pay24 v80) (k0_pay25 v80) (k0_pay26 v88) (k0_pay27 v91) (k0_pay28 v95) a.1 s u t)
      (k0_pay7 (k0_pay24 v80) (k0_pay25 v80) (k0_pay26 v88) (k0_pay27 v91) (k0_pay28 v95) a.1 s u t)
      (k0_pay8 (k0_pay24 v80) (k0_pay25 v80) (k0_pay26 v88) (k0_pay27 v91) (k0_pay28 v95) a.1 a.2.2.1 s u t),
   k0_pay37 v80 v88 v91 v95 a.2.1 a.2.2.2 (k0_pay1 s) (k0_pay2 u) (k0_pay3 t),
   k0_pay33
      (k0_pay5 (k0_pay24 v80) (k0_pay25 v80) (k0_pay26 v88) (k0_pay27 v91) (k0_pay28 v95) a.1 s u t)
      (k0_pay6 (k0_pay24 v80) (k0_pay25 v80) (k0_pay26 v88) (k0_pay27 v91) (k0_pay28 v95) a.1 s u t)
      (k0_pay8 (k0_pay24 v80) (k0_pay25 v80) (k0_pay26 v88) (k0_pay27 v91) (k0_pay28 v95) a.1 a.2.2.1 s u t),
   k0_pay36 v80 v88 v91 v95 a.2.1 a.2.2.2 (k0_pay1 s) (k0_pay2 u) (k0_pay3 t))

variable (A : Agrees v80 v88 v91 v95 W) (s u : Vec Ideal S1x64x256 .f32) (t : Vec Ideal S1x256 .f32)
  (a : FVec Ideal S64x128 .f32 × FVec Ideal S64x128 .f32 × FVec Ideal S64x128 .f32 × FVec Ideal S64x128 .f32)

include A

theorem step_c0 (n : Fin 64) (j : Fin 128) : (step v80 v88 v91 v95 s u t a).2.2.1 (ix2 n j)
    = W.cell (fun e => s (ix3 0 e ⟨j.val, by omega⟩)) (fun e => u (ix3 0 e ⟨j.val, by omega⟩)) (t (ix2 0 ⟨j.val, by omega⟩))
        (fun e => a.1 (ix2 e j)) (fun e => a.2.2.1 (ix2 e j)) n := by
  unfold step Wts.cell
  dsimp only
  pointwise [k0_pay33, k0_pay5, k0_pay6, k0_pay8]
  simp only [gates0 A]
  rw [half_gate _ (by dsimp only; omega), half_gate _ (by dsimp only; omega), one_gate _ (by dsimp only; omega)]

theorem step_h0 (n : Fin 64) (j : Fin 128) : (step v80 v88 v91 v95 s u t a).1 (ix2 n j)
    = W.hid (fun e => s (ix3 0 e ⟨j.val, by omega⟩)) (fun e => u (ix3 0 e ⟨j.val, by omega⟩)) (t (ix2 0 ⟨j.val, by omega⟩))
        (fun e => a.1 (ix2 e j)) (fun e => a.2.2.1 (ix2 e j)) n := by
  unfold Wts.hid
  rw [← step_c0 A s u t a n j]
  unfold step
  dsimp only
  pointwise [k0_pay34, k0_pay7]
  simp only [gates0 A]
  rw [half_gate _ (by dsimp only; omega)]

theorem step_c1 (n : Fin 64) (j : Fin 128) : (step v80 v88 v91 v95 s u t a).2.2.2 (ix2 n j)
    = W.cell (fun e => s (ix3 0 e ⟨128 + j.val, by omega⟩)) (fun e => u (ix3 0 e ⟨128 + j.val, by omega⟩))
        (t (ix2 0 ⟨128 + j.val, by omega⟩)) (fun e => a.2.1 (ix2 e j)) (fun e => a.2.2.2 (ix2 e j)) n := by
  unfold step Wts.cell
  dsimp only
  pointwise [k0_pay36]
  simp only [gates1 A]
  rw [half_gate _ (by dsimp only; omega), half_gate _ (by dsimp only; omega), one_gate _ (by dsimp only; omega)]

theorem step_h1 (n : Fin 64) (j : Fin 128) : (step v80 v88 v91 v95 s u t a).2.1 (ix2 n j)
    = W.hid (fun e => s (ix3 0 e ⟨128 + j.val, by omega⟩)) (fun e => u (ix3 0 e ⟨128 + j.val, by omega⟩))
        (t (ix2 0 ⟨128 + j.val, by omega⟩)) (fun e => a.2.1 (ix2 e j)) (fun e => a.2.2.2 (ix2 e j)) n := by
  unfold Wts.hid
  rw [← step_c1 A s u t a n j]
  unfold step
  dsimp only
  pointwise [k0_pay37]
  simp only [gates1 A]
  rw [half_gate _ (by dsimp only; omega)]

end Cert.Proof.Block
-- ==== Proof.Blocks.lean ====
/- The input blocks of one grid point at coordinates, in terms of the arguments. -/
module

public import proofs.«01_k».proof.Proof.Gen.KernelIdeal.Frame
public import proofs.«01_k».proof.Proof.Spec
public import proofs.«01_k».proof.Proof.Block
public import Idealize.ShloMosaic.Lib.Pipeline.ValueKit
public import Idealize.ShloMosaic.Lib.StableHlo.ReadAt

@[expose] public section

set_option maxRecDepth 16384

noncomputable section

namespace Cert.Proof.Kern

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The arguments read from the launch memory. -/
def ins : Ins where
  x := m ((c : Thread nD τ).loc main_arg0)
  s := m ((c : Thread nD τ).loc main_arg2)
  u := m ((c : Thread nD τ).loc main_arg3)
  d := m ((c : Thread nD τ).loc main_arg4)
  f := m ((c : Thread nD τ).loc main_arg5)
  wq := m ((c : Thread nD τ).loc main_arg6)
  wk := m ((c : Thread nD τ).loc main_arg7)
  wv := m ((c : Thread nD τ).loc main_arg8)
  bv := m ((c : Thread nD τ).loc main_arg9)
  wi := m ((c : Thread nD τ).loc main_arg10)
  wh := m ((c : Thread nD τ).loc main_arg11)
  bi := m ((c : Thread nD τ).loc main_arg12)
  bh := m ((c : Thread nD τ).loc main_arg13)

/-- The row that column `j` of point `t`'s blocks holds. -/
def row (t : Fin cfg0.N) (j : Fin 256) : Fin 16384 :=
  ⟨t.val * 256 + j.val, by have := t.isLt; have h : cfg0.N = 64 := by decide
                           omega⟩

/-- Every window's block index at every point. -/
theorem idx : ∀ t : Fin cfg0.N, win0_0.index t = ![0, t.val] ∧ win0_1.index t = ![0, 0, t.val] ∧ win0_2.index t = ![0, 0, t.val]
    ∧ win0_3.index t = ![0, t.val] ∧ win0_4.index t = ![0, t.val] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, t.val] ∧ win0_14.index t = ![0, 0, t.val]
    ∧ win0_15.index t = ![0, 0, t.val] ∧ win0_16.index t = ![0, t.val] ∧ win0_17.index t = ![0, t.val] :=
  (by decide +kernel : ∀ t : Fin grid0.N, _)

/-! ## The staged arrays at an index -/

theorem e0 (e : Fin 64) (b : Fin 16384) : V m c main_v0 (ix2 e b) = (ins m c).x (ix2 b e) := by
  unfold V V0 ins
  rw [List.flatten_singleton]
  after_reads_at

theorem e1 (n d : Fin 64) (b : Fin 16384) : V m c main_v1 (ix3 n d b) = (ins m c).s (ix3 b n d) := by
  unfold V V0 ins
  rw [List.flatten_singleton]
  after_reads_at

theorem e2 (n d : Fin 64) (b : Fin 16384) : V m c main_v2 (ix3 n d b) = (ins m c).u (ix3 b n d) := by
  unfold V V0 ins
  rw [List.flatten_singleton]
  after_reads_at

theorem e3 (n : Fin 64) (b : Fin 16384) : V m c main_v3 (ix2 n b) = (ins m c).d (ix2 b n) := by
  unfold V V0 ins
  rw [List.flatten_singleton]
  after_reads_at

theorem e4 (n : Fin 64) (b : Fin 16384) : V m c main_v5 (ix2 n b) = ((((ins m c).f (ix2 b n)).toNat : ℝ) : EReal) := by
  unfold V V0 ins
  rw [List.flatten_singleton]
  after_reads_at
  rfl

theorem e6 (a b : Fin 64) : V m c main_v13 (ix2 a b) = (ins m c).wk (ix2 b a) := by
  unfold V V0 ins
  rw [List.flatten_singleton]
  after_reads_at

theorem e8 (a : Fin 64) : V m c main_v6 (ix2 a 0) = (ins m c).bv (ix1 a) := by
  unfold V V0 ins
  rw [List.flatten_singleton]
  after_reads_at

theorem e9 (n : Fin 256) (e : Fin 128) : V m c main_v7 (ix2 n e) = (ins m c).wi (ix2 n ⟨e.val, by omega⟩) := by
  unfold V V0 ins
  rw [List.flatten_singleton]
  after_reads_at

theorem e10 (n : Fin 256) : V m c main_v10 (ix2 n 0) = (ins m c).wi (ix2 n ⟨128, by omega⟩) := by
  unfold V V0 ins
  rw [List.flatten_singleton]
  after_reads_at

theorem e12 (n : Fin 256) : V m c main_v12 (ix2 n 0) = (ins m c).bi (ix1 n) + (ins m c).bh (ix1 n) := by
  unfold V V0 ins
  rw [List.flatten_singleton]
  after_reads_at

/-! ## The blocks at an index -/

variable (t : Fin cfg0.N)

theorem b0 (e : Fin 64) (j : Fin 256) : iblk m c 0 t (ix2 e j) = (ins m c).x (ix2 (row t j) e) := by
  refine Eq.trans ?_ (e0 m c e (row t j))
  blk_simp [iblk, idx t]
  refine congrArg (V m c main_v0) ?_
  try unfold row
  blk_ext [idx t]

theorem b1 (n d : Fin 64) (j : Fin 256) : iblk m c 1 t (ix3 n d j) = (ins m c).s (ix3 (row t j) n d) := by
  refine Eq.trans ?_ (e1 m c n d (row t j))
  blk_simp [iblk, idx t]
  refine congrArg (V m c main_v1) ?_
  try unfold row
  blk_ext [idx t]

theorem b2 (n d : Fin 64) (j : Fin 256) : iblk m c 2 t (ix3 n d j) = (ins m c).u (ix3 (row t j) n d) := by
  refine Eq.trans ?_ (e2 m c n d (row t j))
  blk_simp [iblk, idx t]
  refine congrArg (V m c main_v2) ?_
  try unfold row
  blk_ext [idx t]

theorem b3 (n : Fin 64) (j : Fin 256) : iblk m c 3 t (ix2 n j) = (ins m c).d (ix2 (row t j) n) := by
  refine Eq.trans ?_ (e3 m c n (row t j))
  blk_simp [iblk, idx t]
  refine congrArg (V m c main_v3) ?_
  try unfold row
  blk_ext [idx t]

theorem b4 (n : Fin 64) (j : Fin 256) : iblk m c 4 t (ix2 n j) = ((((ins m c).f (ix2 (row t j) n)).toNat : ℝ) : EReal) := by
  refine Eq.trans ?_ (e4 m c n (row t j))
  blk_simp [iblk, idx t]
  refine congrArg (V m c main_v5) ?_
  try unfold row
  blk_ext [idx t]

theorem b5 (a b : Fin 64) : iblk m c 5 t (ix2 a b) = (ins m c).wq (ix2 a b) := by
  unfold ins
  blk_ext [iblk, V, idx t]

theorem b7 (a b : Fin 64) : iblk m c 7 t (ix2 a b) = (ins m c).wv (ix2 a b) := by
  unfold ins
  blk_ext [iblk, V, idx t]

theorem b6 (a b : Fin 64) : iblk m c 6 t (ix2 a b) = (ins m c).wk (ix2 b a) := by
  refine Eq.trans ?_ (e6 m c a b)
  blk_simp [iblk, idx t]
  refine congrArg (V m c main_v13) ?_
  try unfold row
  blk_ext [idx t]

theorem b8 (a : Fin 64) : iblk m c 8 t (ix2 a 0) = (ins m c).bv (ix1 a) := by
  refine Eq.trans ?_ (e8 m c a)
  blk_simp [iblk, idx t]
  refine congrArg (V m c main_v6) ?_
  try unfold row
  blk_ext [idx t]

theorem b9 (n : Fin 256) (e : Fin 128) : iblk m c 9 t (ix2 n e) = (ins m c).wi (ix2 n ⟨e.val, by omega⟩) := by
  refine Eq.trans ?_ (e9 m c n e)
  blk_simp [iblk, idx t]
  refine congrArg (V m c main_v7) ?_
  try unfold row
  blk_ext [idx t]

theorem b10 (n : Fin 256) : iblk m c 10 t (ix2 n 0) = (ins m c).wi (ix2 n ⟨128, by omega⟩) := by
  refine Eq.trans ?_ (e10 m c n)
  blk_simp [iblk, idx t]
  refine congrArg (V m c main_v10) ?_
  try unfold row
  blk_ext [idx t]

theorem b11 (n : Fin 256) (e : Fin 64) : iblk m c 11 t (ix2 n e) = (ins m c).wh (ix2 n e) := by
  unfold ins
  blk_ext [iblk, V, idx t]

theorem b12 (n : Fin 256) : iblk m c 12 t (ix2 n 0) = (ins m c).bi (ix1 n) + (ins m c).bh (ix1 n) := by
  refine Eq.trans ?_ (e12 m c n)
  blk_simp [iblk, idx t]
  refine congrArg (V m c main_v12) ?_
  try unfold row
  blk_ext [idx t]

end Cert.Proof.Kern
-- ==== Proof.Outs.lean ====
/- What one grid point leaves in its output blocks: the memory arrays and the recurrence's last hidden state. -/
module

public import proofs.«01_k».proof.Proof.Gen.KernelIdeal.Frame
public import proofs.«01_k».proof.Proof.Block
public import Idealize.ShloMosaic.Lib.Pipeline.ValueKit

@[expose] public section

set_option maxRecDepth 16384

noncomputable section

namespace Cert.Proof.Outs

open Idealize.ShloMosaic Idealize.ShloMosaic.TcCoe Idealize.SL.Sem
open Cert.KernelIdeal Cert.KernelIdeal.Gen

variable (c : Dev nD) (i : grid0.Coords) (arg1 : Memref sig .tc .vmem S64x256 .f32) (harg1 : arg1.IsWhole) (arg2 : Memref sig .tc .vmem S64x64x256 .f32) (harg2 : arg2.IsWhole) (arg3 : Memref sig .tc .vmem S64x64x256 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x1 .f32) (harg9 : arg9.IsWhole) (arg10 : Memref sig .tc .vmem S256x128 .f32) (harg10 : arg10.IsWhole) (arg11 : Memref sig .tc .vmem S256x1 .f32) (harg11 : arg11.IsWhole) (arg12 : Memref sig .tc .vmem S256x64 .f32) (harg12 : arg12.IsWhole) (arg13 : Memref sig .tc .vmem S256x1 .f32) (harg13 : arg13.IsWhole) (arg14 : Memref sig .tc .vmem S64x256 .f32) (harg14 : arg14.IsWhole) (arg15 : Memref sig .tc .vmem S64x64x256 .f32) (harg15 : arg15.IsWhole) (arg16 : Memref sig .tc .vmem S64x64x256 .f32) (harg16 : arg16.IsWhole) (arg17 : Memref sig .tc .vmem S64x256 .f32) (harg17 : arg17.IsWhole) (arg18 : Memref sig .tc .vmem S64x256 .f32) (harg18 : arg18.IsWhole)

/-- Slab `k` of a block. -/
def slab (P : Vec Ideal S64x64x256 .f32) (k : Fin k0_t1_loop.trips) : Vec Ideal S1x64x256 .f32 :=
  View.ld (Val := Elt Ideal) (e' := .f32) P (Rect.unit (s := S64x64x256) (k0_off1 k) S1x64x256.size (k0_off1_inb k))

/-- Row `k` of a block. -/
def rowOf (P : Vec Ideal S64x256 .f32) (k : Fin k0_t1_loop.trips) : Vec Ideal S1x256 .f32 :=
  View.ld (Val := Elt Ideal) (e' := .f32) P (Rect.unit (s := S64x256) (k0_off2 k) S1x256.size (k0_off2_inb k))

theorem slab_apply (P : Vec Ideal S64x64x256 .f32) (k : Fin k0_t1_loop.trips) (hk : k.val < 64) (e : Fin 64) (j : Fin 256) :
    slab P k (ix3 0 e j) = P (ix3 ⟨k.val, hk⟩ e j) := by
  refine View.ld_unit_apply_of (Val := Elt Ideal) P _ _ _ _ _ fun a => ?_
  refine Eq.trans ?_ (congrArg (fun x => x + _) (congrFun (k0_off1_eq k) a).symm)
  match a with
  | ⟨0, _⟩ => rfl
  | ⟨1, _⟩ => exact (Nat.zero_add _).symm
  | ⟨2, _⟩ => exact (Nat.zero_add _).symm

theorem row_apply (P : Vec Ideal S64x256 .f32) (k : Fin k0_t1_loop.trips) (hk : k.val < 64) (j : Fin 256) :
    rowOf P k (ix2 0 j) = P (ix2 ⟨k.val, hk⟩ j) := by
  refine View.ld_unit_apply_of (Val := Elt Ideal) P _ _ _ _ _ fun a => ?_
  refine Eq.trans ?_ (congrArg (fun x => x + _) (congrFun (k0_off2_eq k) a).symm)
  match a with
  | ⟨0, _⟩ => rfl
  | ⟨1, _⟩ => exact (Nat.zero_add _).symm

/-- One trip is one step on the slabs the buffers hold. -/
theorem trip_eq (𝒱 : Variants) (bd : Option 𝒱.V) (v80 : Vec Ideal S256x128 .f32) (v88 : Vec Ideal S256x1 .f32) (v91 : Vec Ideal S256x64 .f32) (v95 : Vec Ideal S256x1 .f32) (X15 : BufTy.Contents (Elt Ideal) arg15.view.ty) (X16 : BufTy.Contents (Elt Ideal) arg16.view.ty) (X17 : BufTy.Contents (Elt Ideal) arg17.view.ty) (k : Fin k0_t1_loop.trips)
    (acc : FVec Ideal S64x128 .f32 × FVec Ideal S64x128 .f32 × FVec Ideal S64x128 .f32 × FVec Ideal S64x128 .f32) :
    tripR_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v80 v88 v91 v95 X15 X16 X17 k acc
      = Block.step v80 v88 v91 v95 (slab (arg15.view.read (Elt Ideal) X15) k) (slab (arg16.view.read (Elt Ideal) X16) k)
          (rowOf (arg17.view.read (Elt Ideal) X17) k) acc := by
  unfold tripR_k0_t1 trip_k0_t1
  rfl

theorem trips_eq : k0_t1_loop.trips = 64 := by decide

/-- The carried values before trip `k` are the recurrence's after `k` slots, column by column of each half. -/
theorem loop_apply (𝒱 : Variants) (bd : Option 𝒱.V) (v80 : Vec Ideal S256x128 .f32) (v88 : Vec Ideal S256x1 .f32) (v91 : Vec Ideal S256x64 .f32) (v95 : Vec Ideal S256x1 .f32) (X15 : BufTy.Contents (Elt Ideal) arg15.view.ty) (X16 : BufTy.Contents (Elt Ideal) arg16.view.ty) (X17 : BufTy.Contents (Elt Ideal) arg17.view.ty) (W : Wts) (A : Block.Agrees v80 v88 v91 v95 W)
    (S U : Vec Ideal S64x64x256 .f32) (T : Vec Ideal S64x256 .f32) (hS : arg15.view.read (Elt Ideal) X15 = S)
    (hU : arg16.view.read (Elt Ideal) X16 = U) (hT : arg17.view.read (Elt Ideal) X17 = T) (j : Fin 128) :
    ∀ k : Nat, k ≤ 64 →
    ∀ n : Fin 64, ((st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v80 v88 v91 v95 X15 X16 X17 (k0_pay29, k0_pay30, k0_pay31, k0_pay32) k).1 (ix2 n j)
        = (W.run (fun q e => S (ix3 q e ⟨j.val, by omega⟩)) (fun q e => U (ix3 q e ⟨j.val, by omega⟩)) (fun q => T (ix2 q ⟨j.val, by omega⟩)) k).1 n)
      ∧ ((st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v80 v88 v91 v95 X15 X16 X17 (k0_pay29, k0_pay30, k0_pay31, k0_pay32) k).2.2.1 (ix2 n j)
        = (W.run (fun q e => S (ix3 q e ⟨j.val, by omega⟩)) (fun q e => U (ix3 q e ⟨j.val, by omega⟩)) (fun q => T (ix2 q ⟨j.val, by omega⟩)) k).2 n)
      ∧ ((st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v80 v88 v91 v95 X15 X16 X17 (k0_pay29, k0_pay30, k0_pay31, k0_pay32) k).2.1 (ix2 n j)
        = (W.run (fun q e => S (ix3 q e ⟨128 + j.val, by omega⟩)) (fun q e => U (ix3 q e ⟨128 + j.val, by omega⟩)) (fun q => T (ix2 q ⟨128 + j.val, by omega⟩)) k).1 n)
      ∧ ((st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v80 v88 v91 v95 X15 X16 X17 (k0_pay29, k0_pay30, k0_pay31, k0_pay32) k).2.2.2 (ix2 n j)
        = (W.run (fun q e => S (ix3 q e ⟨128 + j.val, by omega⟩)) (fun q e => U (ix3 q e ⟨128 + j.val, by omega⟩)) (fun q => T (ix2 q ⟨128 + j.val, by omega⟩)) k).2 n) := by
  intro k
  induction k with
  | zero =>
    intro _ n
    rw [st_k0_t1_zero]
    dsimp only [Wts.run]
    refine ⟨?_, ?_, ?_, ?_⟩
    · pointwise [k0_pay29]
    · pointwise [k0_pay31]
    · pointwise [k0_pay30]
    · pointwise [k0_pay32]
  | succ k ih =>
    intro hk n
    have hk' : k < 64 := by omega
    have ih' := ih (by omega)
    have e := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v80 v88 v91 v95 X15 X16 X17
      (k0_pay29, k0_pay30, k0_pay31, k0_pay32) ⟨k, by rw [trips_eq]; exact hk'⟩
    dsimp only at e
    rw [e, trip_eq, hS, hU, hT]
    rw [Block.step_h0 A, Block.step_c0 A, Block.step_h1 A, Block.step_c1 A]
    have hs : ∀ P e j', slab P ⟨k, by rw [trips_eq]; exact hk'⟩ (ix3 0 e j') = P (ix3 ⟨k, hk'⟩ e j') :=
      fun P e j' => slab_apply P _ hk' e j'
    have hr : ∀ P j', rowOf P ⟨k, by rw [trips_eq]; exact hk'⟩ (ix2 0 j') = P (ix2 ⟨k, hk'⟩ j') :=
      fun P j' => row_apply P _ hk' j'
    simp only [hs, hr, fun n => (ih' n).1, fun n => (ih' n).2.1, fun n => (ih' n).2.2.1,
      fun n => (ih' n).2.2.2]
    simp only [Wts.run, dif_pos hk', and_self]

theorem read15 (m : Memref sig .tc .vmem S64x64x256 .f32) (w : Vec Ideal S64x64x256 .f32) :
    m.view.read (Elt Ideal) (m.view.writes (Elt Ideal) m.view.junk
      [⟨Rect.unit ![0, 0, 0] ![64, 64, 256] inb_S64x64x256_S64x64x256_0_0_0, w⟩]) = w := by
  rw [View.read_writes_eq_canon _ _ _ (View.cover_of_tiled_head _ _ _ rfl)]
  exact View.canon_unit_zero (by funext a; match a with | ⟨0, _⟩ => rfl | ⟨1, _⟩ => rfl | ⟨2, _⟩ => rfl) _ w

theorem read17 (m : Memref sig .tc .vmem S64x256 .f32) (w : Vec Ideal S64x256 .f32) :
    m.view.read (Elt Ideal) (m.view.writes (Elt Ideal) m.view.junk
      [⟨Rect.unit ![0, 0] ![64, 256] inb_S64x256_S64x256_0_0, w⟩]) = w := by
  rw [View.read_writes_eq_canon _ _ _ (View.cover_of_tiled_head _ _ _ rfl)]
  exact View.canon_unit_zero (by funext a; match a with | ⟨0, _⟩ => rfl | ⟨1, _⟩ => rfl) _ w

variable (x0 : Vec Ideal S64x256 .f32) (x1 : Vec Ideal S64x64x256 .f32) (x2 : Vec Ideal S64x64x256 .f32) (x3 : Vec Ideal S64x256 .f32) (x4 : Vec Ideal S64x256 .f32) (x5 : Vec Ideal S64x64 .f32) (x6 : Vec Ideal S64x64 .f32) (x7 : Vec Ideal S64x64 .f32) (x8 : Vec Ideal S64x1 .f32) (x9 : Vec Ideal S256x128 .f32) (x10 : Vec Ideal S256x1 .f32) (x11 : Vec Ideal S256x64 .f32) (x12 : Vec Ideal S256x1 .f32)

/-- The memory arrays' blocks after the body. -/
def slotsB : Vec Ideal S64x64x256 .f32 :=
  k0_pay20 (k0_pay9 x0) (k0_pay10 x1) Block.iotaN (k0_pay14 x4) (k0_pay15 x0 x1 x5 x6) x7 x8
def cumB : Vec Ideal S64x64x256 .f32 :=
  k0_pay19 (k0_pay9 x0) (k0_pay11 x2) Block.iotaN (k0_pay14 x4) (k0_pay15 x0 x1 x5 x6)
def timeB : Vec Ideal S64x256 .f32 := k0_pay18 (k0_pay12 x3) Block.iotaN (k0_pay14 x4) (k0_pay15 x0 x1 x5 x6)
def filledB : Vec Ideal S64x256 .f32 := k0_pay21 (k0_pay13 x4) Block.iotaN (k0_pay14 x4) (k0_pay15 x0 x1 x5 x6)

theorem out14 : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 = slotsB x0 x1 x4 x5 x6 x7 x8 := by
  frame_out
  rfl
theorem out15 : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 = cumB x0 x1 x2 x4 x5 x6 := by
  frame_out
  rfl
theorem out16 : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 = timeB x0 x1 x3 x4 x5 x6 := by
  frame_out
  rfl
theorem out17 : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 = filledB x0 x1 x4 x5 x6 := by
  frame_out
  rfl

theorem out13 (W : Wts) (A : Block.Agrees x9 x10 x11 x12 W) (n : Fin 64) (j : Fin 256) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 (ix2 n j)
      = (W.run (fun q e => slotsB x0 x1 x4 x5 x6 x7 x8 (ix3 q e j)) (fun q e => cumB x0 x1 x2 x4 x5 x6 (ix3 q e j))
          (fun q => timeB x0 x1 x3 x4 x5 x6 (ix2 q j)) 64).1 n := by
  frame_out
  canon_tiles z g
  · have e0 : n.val = (z 0).val := g0
    have e1 : j.val = 128 + (z 1).val := g1
    have ez : z = ix2 n ⟨(z 1).val, z1_lt⟩ := by
      funext a
      match a with
      | ⟨0, _⟩ => exact Fin.ext e0.symm
      | ⟨1, _⟩ => rfl
    have ej : j = ⟨128 + (z 1).val, by omega⟩ := Fin.ext e1
    rw [ez, show Scf.trips 0#32 (Scalar.addi 0#32 64#32) 1#32 = 64 from by decide]
    refine (loop_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _ _ _ _ W A (slotsB x0 x1 x4 x5 x6 x7 x8) (cumB x0 x1 x2 x4 x5 x6)
      (timeB x0 x1 x3 x4 x5 x6) (read15 _ _) (read15 _ _) (read17 _ _) ⟨(z 1).val, z1_lt⟩ 64 le_rfl n).2.2.1.trans ?_
    rw [ej]
  · have e0 : n.val = (z 0).val := g0
    have e1 : j.val = (z 1).val := g1
    have ez : z = ix2 n ⟨(z 1).val, z1_lt⟩ := by
      funext a
      match a with
      | ⟨0, _⟩ => exact Fin.ext e0.symm
      | ⟨1, _⟩ => rfl
    have ej : j = ⟨(z 1).val, by omega⟩ := Fin.ext e1
    rw [ez, show Scf.trips 0#32 (Scalar.addi 0#32 64#32) 1#32 = 64 from by decide]
    refine (loop_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _ _ _ _ W A (slotsB x0 x1 x4 x5 x6 x7 x8) (cumB x0 x1 x2 x4 x5 x6)
      (timeB x0 x1 x3 x4 x5 x6) (read15 _ _) (read15 _ _) (read17 _ _) ⟨(z 1).val, z1_lt⟩ 64 le_rfl n).1.trans ?_
    rw [ej]

end Cert.Proof.Outs
-- ==== Proof.Arrays.lean ====
/- What the kernel's output arrays hold when the grid is done. -/
module

public import proofs.«01_k».proof.Proof.Blocks
public import proofs.«01_k».proof.Proof.Outs

@[expose] public section

set_option maxRecDepth 16384

noncomputable section

namespace Cert.Proof.Kern

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

/-- A mark read as a number is zero when it is not set. -/
theorem mark_zero (w : BitVec 1) : ((w.toNat : ℝ) : EReal) = 0 ↔ w = 0#1 := by
  rcases BitVec.eq_zero_or_eq_one w with h | h <;> subst h <;> simp

theorem slot_eq (j : Fin 256) :
    Block.slot (iblk m c 0 t) (iblk m c 1 t) (iblk m c 4 t) (iblk m c 5 t) (iblk m c 6 t) j = (ins m c).slot (row t j) := by
  have h1 : Block.Empty (iblk m c 4 t) j = (ins m c).empty (row t j) := by
    funext k
    exact propext ((Eq.congr_left (b4 m c t k j)).trans (mark_zero _))
  have h2 : Block.score (iblk m c 0 t) (iblk m c 1 t) (iblk m c 5 t) (iblk m c 6 t) j = (ins m c).score (row t j) := by
    funext n
    unfold Block.score Ins.score
    refine Finset.sum_congr rfl fun d _ => ?_
    refine congrArg₂ (· * ·) (b1 m c t n d j) (Finset.sum_congr rfl fun h _ => ?_)
    refine congrArg₂ (· * ·) (b6 m c t d h) (Finset.sum_congr rfl fun e _ => ?_)
    exact congrArg₂ (· * ·) (b5 m c t h e) (b0 m c t e j)
  unfold Block.slot Ins.slot
  rw [h1, h2]

theorem slots_eq (n d : Fin 64) (j : Fin 256) :
    Outs.slotsB (iblk m c 0 t) (iblk m c 1 t) (iblk m c 4 t) (iblk m c 5 t) (iblk m c 6 t) (iblk m c 7 t) (iblk m c 8 t) (ix3 n d j)
      = (ins m c).slotsAt (row t j) n d := by
  unfold Outs.slotsB Ins.slotsAt
  rw [Block.slots_apply, slot_eq]
  refine if_congr Iff.rfl (congrArg₂ (· + ·) (Finset.sum_congr rfl fun e _ => ?_) (b8 m c t d)) (b1 m c t n d j)
  exact congrArg₂ (· * ·) (b7 m c t d e) (b0 m c t e j)

theorem cum_eq (n d : Fin 64) (j : Fin 256) :
    Outs.cumB (iblk m c 0 t) (iblk m c 1 t) (iblk m c 2 t) (iblk m c 4 t) (iblk m c 5 t) (iblk m c 6 t) (ix3 n d j)
      = (ins m c).cumAt (row t j) n d := by
  unfold Outs.cumB Ins.cumAt
  rw [Block.cum_apply, slot_eq]
  exact if_congr Iff.rfl (b0 m c t d j) (congrArg₂ (· + ·) (b2 m c t n d j) (b0 m c t d j))

theorem time_eq (n : Fin 64) (j : Fin 256) :
    Outs.timeB (iblk m c 0 t) (iblk m c 1 t) (iblk m c 3 t) (iblk m c 4 t) (iblk m c 5 t) (iblk m c 6 t) (ix2 n j)
      = (ins m c).timeAt (row t j) n := by
  unfold Outs.timeB Ins.timeAt
  rw [Block.time_apply, slot_eq]
  exact if_congr Iff.rfl rfl (congrArg (· + (1 : EReal)) (b3 m c t n j))

theorem filled_eq (n : Fin 64) (j : Fin 256) :
    Outs.filledB (iblk m c 0 t) (iblk m c 1 t) (iblk m c 4 t) (iblk m c 5 t) (iblk m c 6 t) (ix2 n j)
      = ((((ins m c).filledAt (row t j) n).toNat : ℝ) : EReal) := by
  unfold Outs.filledB Ins.filledAt
  rw [Block.filled_apply, slot_eq, b4]
  split
  · simp
  · rfl

theorem agrees : Block.Agrees (iblk m c 9 t) (iblk m c 10 t) (iblk m c 11 t) (iblk m c 12 t) (ins m c).W :=
  ⟨b9 m c t, b10 m c t, b11 m c t, b12 m c t⟩

theorem final13 : (dats m 0 c).arrAt 13 (cfgs 0).N
    = (fun i : S64x16384.Idx => (ins m c).hidAt (i 1) (i 0)) := by
  refine (dats m 0 c).arrAt_eq_of_covers 13 _ (by decide +kernel) fun t hf y => ?_
  blk_simp
  rw [after0_13]
  unfold outsAt0
  dsimp only
  obtain ⟨n, j, rfl⟩ : ∃ (n : Fin 64) (j : Fin 256), y = ix2 n j := ⟨y 0, y 1, by idx_vars y⟩
  rw [Outs.out13 (W := (ins m c).W) (A := agrees m c t)]
  have he : ((cfg0.win 13).blk t).view.emb (ix2 n j) = ix2 n (row t j) := by
    unfold row
    blk_ext [idx t]
  rw [he]
  unfold Ins.hidAt
  have h1 : (fun q e => Outs.slotsB (iblk m c 0 t) (iblk m c 1 t) (iblk m c 4 t) (iblk m c 5 t) (iblk m c 6 t) (iblk m c 7 t)
      (iblk m c 8 t) (ix3 q e j)) = (ins m c).slotsAt (row t j) := funext fun q => funext fun e => slots_eq m c t q e j
  have h2 : (fun q e => Outs.cumB (iblk m c 0 t) (iblk m c 1 t) (iblk m c 2 t) (iblk m c 4 t) (iblk m c 5 t) (iblk m c 6 t)
      (ix3 q e j)) = (ins m c).cumAt (row t j) := funext fun q => funext fun e => cum_eq m c t q e j
  have h3 : (fun q => Outs.timeB (iblk m c 0 t) (iblk m c 1 t) (iblk m c 3 t) (iblk m c 4 t) (iblk m c 5 t) (iblk m c 6 t)
      (ix2 q j)) = (ins m c).timeAt (row t j) := funext fun q => time_eq m c t q j
  rw [h1, h2, h3]
  rfl

theorem final14 : (dats m 0 c).arrAt 14 (cfgs 0).N
    = (fun i : S64x64x16384.Idx => (ins m c).slotsAt (i 2) (i 0) (i 1)) := by
  refine (dats m 0 c).arrAt_eq_of_covers 14 _ (by decide +kernel) fun t hf y => ?_
  blk_simp
  rw [after0_14]
  unfold outsAt0
  dsimp only
  obtain ⟨n, d, j, rfl⟩ : ∃ (n d : Fin 64) (j : Fin 256), y = ix3 n d j := ⟨y 0, y 1, y 2, by idx_vars y⟩
  rw [Outs.out14, slots_eq]
  have he : ((cfg0.win 14).blk t).view.emb (ix3 n d j) = ix3 n d (row t j) := by
    unfold row
    blk_ext [idx t]
  rw [he]
  rfl

theorem final15 : (dats m 0 c).arrAt 15 (cfgs 0).N
    = (fun i : S64x64x16384.Idx => (ins m c).cumAt (i 2) (i 0) (i 1)) := by
  refine (dats m 0 c).arrAt_eq_of_covers 15 _ (by decide +kernel) fun t hf y => ?_
  blk_simp
  rw [after0_15]
  unfold outsAt0
  dsimp only
  obtain ⟨n, d, j, rfl⟩ : ∃ (n d : Fin 64) (j : Fin 256), y = ix3 n d j := ⟨y 0, y 1, y 2, by idx_vars y⟩
  rw [Outs.out15, cum_eq]
  have he : ((cfg0.win 15).blk t).view.emb (ix3 n d j) = ix3 n d (row t j) := by
    unfold row
    blk_ext [idx t]
  rw [he]
  rfl

theorem final16 : (dats m 0 c).arrAt 16 (cfgs 0).N
    = (fun i : S64x16384.Idx => (ins m c).timeAt (i 1) (i 0)) := by
  refine (dats m 0 c).arrAt_eq_of_covers 16 _ (by decide +kernel) fun t hf y => ?_
  blk_simp
  rw [after0_16]
  unfold outsAt0
  dsimp only
  obtain ⟨n, j, rfl⟩ : ∃ (n : Fin 64) (j : Fin 256), y = ix2 n j := ⟨y 0, y 1, by idx_vars y⟩
  rw [Outs.out16, time_eq]
  have he : ((cfg0.win 16).blk t).view.emb (ix2 n j) = ix2 n (row t j) := by
    unfold row
    blk_ext [idx t]
  rw [he]
  rfl

theorem final17 : (dats m 0 c).arrAt 17 (cfgs 0).N
    = (fun i : S64x16384.Idx => ((((ins m c).filledAt (i 1) (i 0)).toNat : ℝ) : EReal)) := by
  refine (dats m 0 c).arrAt_eq_of_covers 17 _ (by decide +kernel) fun t hf y => ?_
  blk_simp
  rw [after0_17]
  unfold outsAt0
  dsimp only
  obtain ⟨n, j, rfl⟩ : ∃ (n : Fin 64) (j : Fin 256), y = ix2 n j := ⟨y 0, y 1, by idx_vars y⟩
  rw [Outs.out17, filled_eq]
  have he : ((cfg0.win 17).blk t).view.emb (ix2 n j) = ix2 n (row t j) := by
    unfold row
    blk_ext [idx t]
  rw [he]
  rfl

end Cert.Proof.Kern
-- ==== Proof.Tail.lean ====
/- The kernel program's run: its five results, with every argument unchanged. -/
module

public import proofs.«01_k».proof.Proof.Arrays
public import Idealize.ShloMosaic.Lib.Claim

@[expose] public section

set_option maxRecDepth 16384

noncomputable section

namespace Cert.Proof.Kern

open Idealize.ShloMosaic Idealize.ShloMosaic.TcCoe Idealize.SL.Sem
open Cert.KernelIdeal Cert.KernelIdeal.Gen

variable (m : (ℓ : Loc nD τ sig) → Buf (Elt Ideal) ℓ) (c : Dev nD)

theorem arr_inj : Function.Injective (Pipeline.arrRef (cfgs 0).spec) := by decide

/-- The buffers when the grid is done. -/
abbrev exitV : Valuation τ sig (Elt Ideal) :=
  Pipeline.withArrays (cfgs 0).spec c (V0 m c) (fun w => (dats m 0 c).arrAt w (cfgs 0).N)

theorem exit13 : exitV m c (Proc.devRef .tc main_v14_0) = (fun i : S64x16384.Idx => (ins m c).hidAt (i 1) (i 0)) :=
  (Pipeline.withArrays_arr (cfgs 0).spec arr_inj c (V0 m c) (fun w => (dats m 0 c).arrAt w (cfgs 0).N) 13).trans (final13 m c)
theorem exit14 : exitV m c (Proc.devRef .tc main_v14_1) = (fun i : S64x64x16384.Idx => (ins m c).slotsAt (i 2) (i 0) (i 1)) :=
  (Pipeline.withArrays_arr (cfgs 0).spec arr_inj c (V0 m c) (fun w => (dats m 0 c).arrAt w (cfgs 0).N) 14).trans (final14 m c)
theorem exit15 : exitV m c (Proc.devRef .tc main_v14_2) = (fun i : S64x64x16384.Idx => (ins m c).cumAt (i 2) (i 0) (i 1)) :=
  (Pipeline.withArrays_arr (cfgs 0).spec arr_inj c (V0 m c) (fun w => (dats m 0 c).arrAt w (cfgs 0).N) 15).trans (final15 m c)
theorem exit16 : exitV m c (Proc.devRef .tc main_v14_3) = (fun i : S64x16384.Idx => (ins m c).timeAt (i 1) (i 0)) :=
  (Pipeline.withArrays_arr (cfgs 0).spec arr_inj c (V0 m c) (fun w => (dats m 0 c).arrAt w (cfgs 0).N) 16).trans (final16 m c)
theorem exit17 : exitV m c (Proc.devRef .tc main_v14_4)
    = (fun i : S64x16384.Idx => ((((ins m c).filledAt (i 1) (i 0)).toNat : ℝ) : EReal)) :=
  (Pipeline.withArrays_arr (cfgs 0).spec arr_inj c (V0 m c) (fun w => (dats m 0 c).arrAt w (cfgs 0).N) 17).trans (final17 m c)

/-- Above one half exactly when set. -/
theorem mark_back (w : BitVec 1) :
    BitVec.ofBool (decide (Ideal.ofBits FTy.f32 1056964608#32 < (((w.toNat : ℝ) : EReal)))) = w := by
  rw [half_bits]
  rcases BitVec.eq_zero_or_eq_one w with h | h <;> subst h
  · rw [decide_eq_false (by rw [EReal.coe_lt_coe_iff]; norm_num)]; rfl
  · rw [decide_eq_true (by rw [EReal.coe_lt_coe_iff]; norm_num)]; rfl

theorem tail_v15 : Pipeline.afterTail₀ cfgs (dats m) 0 (V0 m) [hostOps1] c main_v15 = (ins m c).hidA := by
  unfold Pipeline.afterTail₀
  rw [List.flatten_singleton]
  funext i
  obtain ⟨b, j, rfl⟩ : ∃ (b : Fin 16384) (j : Fin 64), i = ix2 b j := ⟨i 0, i 1, by idx_vars i⟩
  after_reads_at
  exact congrFun (exit13 m c) (ix2 j b)

theorem tail_v16 : Pipeline.afterTail₀ cfgs (dats m) 0 (V0 m) [hostOps1] c main_v16 = (ins m c).slotsA := by
  unfold Pipeline.afterTail₀
  rw [List.flatten_singleton]
  funext i
  obtain ⟨b, n, d, rfl⟩ : ∃ (b : Fin 16384) (n d : Fin 64), i = ix3 b n d := ⟨i 0, i 1, i 2, by idx_vars i⟩
  after_reads_at
  exact congrFun (exit14 m c) (ix3 n d b)

theorem tail_v17 : Pipeline.afterTail₀ cfgs (dats m) 0 (V0 m) [hostOps1] c main_v17 = (ins m c).cumA := by
  unfold Pipeline.afterTail₀
  rw [List.flatten_singleton]
  funext i
  obtain ⟨b, n, d, rfl⟩ : ∃ (b : Fin 16384) (n d : Fin 64), i = ix3 b n d := ⟨i 0, i 1, i 2, by idx_vars i⟩
  after_reads_at
  exact congrFun (exit15 m c) (ix3 n d b)

theorem tail_v18 : Pipeline.afterTail₀ cfgs (dats m) 0 (V0 m) [hostOps1] c main_v18 = (ins m c).timeA := by
  unfold Pipeline.afterTail₀
  rw [List.flatten_singleton]
  funext i
  obtain ⟨b, j, rfl⟩ : ∃ (b : Fin 16384) (j : Fin 64), i = ix2 b j := ⟨i 0, i 1, by idx_vars i⟩
  after_reads_at
  exact congrFun (exit16 m c) (ix2 j b)

theorem tail_v21 : Pipeline.afterTail₀ cfgs (dats m) 0 (V0 m) [hostOps1] c main_v21 = (ins m c).filledA := by
  unfold Pipeline.afterTail₀
  rw [List.flatten_singleton]
  funext i
  obtain ⟨b, j, rfl⟩ : ∃ (b : Fin 16384) (j : Fin 64), i = ix2 b j := ⟨i 0, i 1, by idx_vars i⟩
  after_reads_at
  exact (congrArg (fun y : EReal => BitVec.ofBool (decide (Ideal.ofBits FTy.f32 1056964608#32 < y)))
    (congrFun (exit17 m c) (ix2 j b))).trans (mark_back _)

theorem run (ρ : Dev nD → PrngReg) : θ_run defs (onTc (τ := τ) (main (F := Ideal))) ⟨m, fun _ => 0, ρ⟩ (fun r => ∀ c : Dev nD,
      r.2.mem ((c.tc : Thread nD τ).loc main_v15) = (ins m c).hidA
      ∧ r.2.mem ((c.tc : Thread nD τ).loc main_v16) = (ins m c).slotsA
      ∧ r.2.mem ((c.tc : Thread nD τ).loc main_v17) = (ins m c).cumA
      ∧ r.2.mem ((c.tc : Thread nD τ).loc main_v18) = (ins m c).timeA
      ∧ r.2.mem ((c.tc : Thread nD τ).loc main_v21) = (ins m c).filledA) :=
  (θ_run defs _ _).mono (fun r h c =>
    ⟨((h c).2 main_v15 (by decide)).trans (tail_v15 m c), ((h c).2 main_v16 (by decide)).trans (tail_v16 m c),
     ((h c).2 main_v17 (by decide)).trans (tail_v17 m c), ((h c).2 main_v18 (by decide)).trans (tail_v18 m c),
     ((h c).2 main_v21 (by decide)).trans (tail_v21 m c)⟩) (Gen.run_main m ρ)

end Cert.Proof.Kern
-- ==== Proof.Finite.lean ====
/- What the precondition says of the arguments, and what it is needed for: the reference multiplies keys with queries
   where the kernel applies the two projections to the query one after the other. -/
module

public import proofs.«01_k».proof.Defs
public import proofs.«01_k».proof.Proof.Blocks
public import proofs.«01_k».proof.Proof.RefLoop

@[expose] public section

set_option maxRecDepth 16384

noncomputable section

namespace Cert.Proof

open Idealize.ShloMosaic Idealize.SL.Sem

/-- The predicate's side conditions. -/
theorem preFacts : Cert.Pre_finite_scores.Facts := ⟨by decide, by decide, by decide⟩

/-- An absolute value below the top is a finite number's. -/
theorem fin_of_abs {y : EReal} (h : (FloatOps.cmpf .olt (max y (-y) : Ideal .f32) (Ideal.ofBits .f32 0x7F800000#32 : Ideal .f32) : BitVec 1) = 1#1) :
    Fin' y := by
  have hlt : max y (-y) < ⊤ := by
    by_contra hn
    rw [top_bits, Ideal.cmpf_def] at h
    simp only [Ideal.cmp] at h
    rw [decide_eq_false hn] at h
    exact absurd h (by decide)
  refine ⟨fun e => ?_, fun e => ?_⟩
  · rw [e] at hlt
    simp at hlt
  · rw [e] at hlt
    simp at hlt

/-- What the precondition says of one device's arguments. -/
structure Ok (I : Ins) : Prop where
  x : ∀ b e, Fin' (I.x (ix2 b e))
  s : ∀ b n e, Fin' (I.s (ix3 b n e))
  wq : ∀ h e, Fin' (I.wq (ix2 h e))
  wk : ∀ h e, Fin' (I.wk (ix2 h e))

theorem ok_of_pre (hp : Cert.Pre_finite_scores.Facts)
    (m : (ℓ : Loc Cert.KernelIdeal.nD Cert.KernelIdeal.τ Cert.KernelIdeal.sig) → Buf (Elt Ideal) ℓ)
    (h : Cert.Pre_KernelIdeal_finite_scores m) (c : Dev Cert.KernelIdeal.nD) : Ok (Kern.ins m c) := by
  obtain ⟨h0, h2, h6, h7⟩ := h c
  exact ⟨fun b e => fin_of_abs (congrFun h0 (ix2 b e)), fun b n e => fin_of_abs (congrFun h2 (ix3 b n e)),
    fun a e => fin_of_abs (congrFun h6 (ix2 a e)), fun a e => fin_of_abs (congrFun h7 (ix2 a e))⟩

/-- The two orders of the score's products pick the same slots. -/
theorem same_slot (I : Ins) (h : Ok I) (b : Fin 16384) : pick (I.empty b) (Ref.scoreR I b) = I.slot b := by
  unfold Ins.slot
  congr 1
  funext n
  exact (score_eq (fun d => I.s (ix3 b n d)) (fun h d => I.wk (ix2 h d)) (fun h e => I.wq (ix2 h e)) (fun e => I.x (ix2 b e))
    (h.s b n) h.wk h.wq (h.x b)).symm

end Cert.Proof

end
-- ==== Proof.lean ====
/- The proof of the certificate: the programs' frames, and the equality of all five results of the kernel and the
   reference over the extended reals. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefRun
public import proofs.«01_k».proof.Proof.RefLoop
public import proofs.«01_k».proof.Proof.Tail
public import proofs.«01_k».proof.Proof.Finite

@[expose] public section

set_option maxRecDepth 16384

noncomputable section

namespace Cert.Proof

open Idealize.ShloMosaic Idealize.SL.Sem

/-- From memories agreeing on the arguments, kernel and reference end with the same five results. -/
theorem algebraic : algebraic_KernelIdeal_ReferenceIdeal_pre_finite_scores (hKernelIdeal := Cert.KernelIdeal.Gen.facts)
    (hReferenceIdeal := Cert.ReferenceIdeal.Gen.facts) (hPre_finite_scores := preFacts) := by
  intro m g m' g' hpre hagree
  have hins : ∀ c : Dev Cert.KernelIdeal.nD, Ref.ins m' c = Kern.ins m c := fun c => by
    obtain ⟨h0, -, h2, h3, h4, h5, h6, h7, h8, h9, h10, h11, h12, h13⟩ := hagree c
    exact Ins.ext h0 h2 h3 h4 h5 h6 h7 h8 h9 h10 h11 h12 h13
  have hslot : ∀ c : Dev Cert.KernelIdeal.nD, Ref.SameSlot m' c := fun c b => by
    rw [hins c]
    exact same_slot _ (ok_of_pre preFacts m hpre c) b
  refine ⟨fun c => (Kern.ins m c).hidA, fun c => (Kern.ins m c).slotsA, fun c => (Kern.ins m c).cumA,
    fun c => (Kern.ins m c).timeA, fun c => (Kern.ins m c).filledA, ?_, ?_⟩
  · refine (θ_run Cert.KernelIdeal.defs _ _).mono (fun r h c => ?_)
      (θ_run_and (Kern.run m g) (Cert.KernelIdeal.Gen.unchanged (F := Ideal) m g))
    obtain ⟨e0, e1, e2, e3, e4⟩ := h.1 c
    exact ⟨e0, e1, e2, e3, e4, h.2 c⟩
  · refine (θ_run Cert.ReferenceIdeal.defs _ _).mono (fun r h c => ?_) (Cert.ReferenceIdeal.Value.run_fold (F := Ideal) m' g')
    have hc := h c
    refine ⟨(hc _ rfl).trans ((Ref.final_hid (hslot c)).trans (congrArg Ins.hidA (hins c))),
      (hc _ rfl).trans ((Ref.final_slots (hslot c)).trans (congrArg Ins.slotsA (hins c))),
      (hc _ rfl).trans ((Ref.final_cum (hslot c)).trans (congrArg Ins.cumA (hins c))),
      (hc _ rfl).trans ((Ref.final_time (hslot c)).trans (congrArg Ins.timeA (hins c))),
      (hc _ rfl).trans ((Ref.final_filled (hslot c)).trans (congrArg Ins.filledA (hins c))),
      Ref.args m' c r.2.mem hc⟩

/-- Every claim of this certificate. -/
theorem claim : Cert.Claim := ⟨Cert.Kernel.Gen.facts, Cert.KernelIdeal.Gen.facts, Cert.ReferenceIdeal.Gen.facts, preFacts,
  fun m ρ _ => Cert.Kernel.Gen.frame m ρ, fun m ρ _ => Cert.KernelIdeal.Gen.frame m ρ, fun m ρ _ => Cert.KernelIdeal.Gen.frame m ρ,
  Ref.frame, fun m ρ _ => Ref.frame m ρ trivial, trivial, algebraic⟩

end Cert.Proof

end
